-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x16 : Shape := ⟨2, ![256, 16]⟩
abbrev S512x2 : Shape := ⟨2, ![512, 2]⟩
abbrev S4x256x512 : Shape := ⟨3, ![4, 256, 512]⟩
abbrev S_ : Shape := ⟨0, ![]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S512x256 .f32) (main_arg1 : FVec F S256x16 .f32) (main_arg2 : IVec S512x2 32) (main_arg3 : FVec F S4x256x512 .f32) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 16#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_c_1 : IVec S_ 1 := constantI S_ 1 1#1
  let main_v5 : IVec S_ 1 := (fun x v => Host.reduce IntOp.andi x v reducesTo_S512x2_S_d0_1 h_S_) main_v4 main_c_1
  let main_v6 : FVec F S512x256 .f32 := Host.absf main_arg0
  let main_cst : FVec F S_ .f32 := constant S_ .f32 0x7F800000#32
  let main_v7 : FVec F S512x256 .f32 := broadcastInDim S512x256 ![] bcast_S_S512x256 main_cst
  let main_v8 : IVec S512x256 1 := cmpf .olt main_v6 main_v7
  let main_c_2 : IVec S_ 1 := constantI S_ 1 1#1
  let main_v9 : IVec S_ 1 := (fun x v => Host.reduce IntOp.andi x v reducesTo_S512x256_S_d0_1 h_S_) main_v8 main_c_2
  let main_v10 : IVec S_ 1 := andi main_v5 main_v9
  let main_v11 : FVec F S256x16 .f32 := Host.absf main_arg1
  let main_cst_3 : FVec F S_ .f32 := constant S_ .f32 0x7F800000#32
  let main_v12 : FVec F S256x16 .f32 := broadcastInDim S256x16 ![] bcast_S_S256x16 main_cst_3
  let main_v13 : IVec S256x16 1 := cmpf .olt main_v11 main_v12
  let main_c_4 : IVec S_ 1 := constantI S_ 1 1#1
  let main_v14 : IVec S_ 1 := (fun x v => Host.reduce IntOp.andi x v reducesTo_S256x16_S_d0_1 h_S_) main_v13 main_c_4
  let main_v15 : IVec S_ 1 := andi main_v10 main_v14
  main_v15
-- ==== Pre_routed_ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S_ : Shape := ⟨0, ![]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S512x256 .f32) (main_arg1 : FVec F S256x16 .f32) (main_arg2 : IVec S512x2 32) (main_arg3 : FVec F S16x256x512 .f32) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 16#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_c_1 : IVec S_ 1 := constantI S_ 1 1#1
  let main_v5 : IVec S_ 1 := (fun x v => Host.reduce IntOp.andi x v reducesTo_S512x2_S_d0_1 h_S_) main_v4 main_c_1
  let main_v6 : FVec F S512x256 .f32 := Host.absf main_arg0
  let main_cst : FVec F S_ .f32 := constant S_ .f32 0x7F800000#32
  let main_v7 : FVec F S512x256 .f32 := broadcastInDim S512x256 ![] bcast_S_S512x256 main_cst
  let main_v8 : IVec S512x256 1 := cmpf .olt main_v6 main_v7
  let main_c_2 : IVec S_ 1 := constantI S_ 1 1#1
  let main_v9 : IVec S_ 1 := (fun x v => Host.reduce IntOp.andi x v reducesTo_S512x256_S_d0_1 h_S_) main_v8 main_c_2
  let main_v10 : IVec S_ 1 := andi main_v5 main_v9
  let main_v11 : FVec F S256x16 .f32 := Host.absf main_arg1
  let main_cst_3 : FVec F S_ .f32 := constant S_ .f32 0x7F800000#32
  let main_v12 : FVec F S256x16 .f32 := broadcastInDim S256x16 ![] bcast_S_S256x16 main_cst_3
  let main_v13 : IVec S256x16 1 := cmpf .olt main_v11 main_v12
  let main_c_4 : IVec S_ 1 := constantI S_ 1 1#1
  let main_v14 : IVec S_ 1 := (fun x v => Host.reduce IntOp.andi x v reducesTo_S256x16_S_d0_1 h_S_) main_v13 main_c_4
  let main_v15 : IVec S_ 1 := andi main_v10 main_v14
  main_v15
-- ==== Kernel.lean ====
abbrev S512x256 : Shape := ⟨2, ![512, 256]⟩
abbrev S256x16 : Shape := ⟨2, ![256, 16]⟩
abbrev S512x2 : Shape := ⟨2, ![512, 2]⟩
abbrev S4x256x512 : Shape := ⟨3, ![4, 256, 512]⟩
abbrev S128x512 : Shape := ⟨2, ![128, 512]⟩
abbrev S3x128x512 : Shape := ⟨3, ![3, 128, 512]⟩
abbrev S3 : Shape := ⟨1, ![3]⟩
abbrev S_ : Shape := ⟨0, ![]⟩
abbrev S128x256 : Shape := ⟨2, ![128, 256]⟩
abbrev S128x1 : Shape := ⟨2, ![128, 1]⟩
abbrev S128x16 : Shape := ⟨2, ![128, 16]⟩
abbrev S128 : Shape := ⟨1, ![128]⟩
abbrev S1x256x512 : Shape := ⟨3, ![1, 256, 512]⟩
abbrev S256x512 : Shape := ⟨2, ![256, 512]⟩
abbrev S1x128x512 : Shape := ⟨3, ![1, 128, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x2, .i32⟩
  | .hbm, ⟨3, _⟩ => ⟨S4x256x512, .f32⟩
  | .hbm, ⟨4, _⟩ => ⟨S128x512, .f32⟩
  | .local _ .vmem, ⟨0, _⟩ => ⟨S512x256, .f32⟩
  | .local _ .vmem, ⟨1, _⟩ => ⟨S256x16, .f32⟩
  | .local _ .vmem, ⟨2, _⟩ => ⟨S512x2, .i32⟩
  | .local _ .vmem, ⟨3, _⟩ => ⟨S4x256x512, .f32⟩
  | .local _ .vmem, ⟨4, _⟩ => ⟨S128x512, .f32⟩
  | .local _ .vmem, ⟨5, _⟩ => ⟨S3x128x512, .bf16⟩
  | .local _ .vmem, ⟨6, _⟩ => ⟨S3x128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.addi v2 c2_i32
  let c4_i32_0 : BitVec 32 := 4#32
  let c0_i32 : BitVec 32 := 0#32
  let v5 : BitVec 1 := Scalar.cmpi .eq c4_i32_0 c0_i32
  let c1_i32_1 : BitVec 32 := 1#32
  let v6 : BitVec 32 := Scalar.select v5 c1_i32_1 c4_i32_0
  let v7 : BitVec 32 := Scalar.remsi v4 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c1_i32_6 : BitVec 32 := 1#32
  let v15 : BitVec 32 := Scalar.muli v14 c1_i32_6
  let v16 : BitVec 32 := Scalar.addi c0_i32_7 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v17 : BitVec 32 := Scalar.addi v2 c1_i32_8
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c2_i32_29
  let c4_i32_30 : BitVec 32 := 4#32
  let c0_i32_31 : BitVec 32 := 0#32
  let v46 : BitVec 1 := Scalar.cmpi .eq c4_i32_30 c0_i32_31
  let c1_i32_32 : BitVec 32 := 1#32
  let v47 : BitVec 32 := Scalar.select v46 c1_i32_32 c4_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c128_i32 : BitVec 32 := 128#32
  let v56 : BitVec 32 := Scalar.muli v55 c128_i32
  let v57 : Index := Scalar.indexCast v56
  let c0_36 : Index := 0#32
  ![v57.toNat, 0]
def k0_off2 (d0 : Dev nD) (c2_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c2_i32_29
  let c4_i32_30 : BitVec 32 := 4#32
  let c0_i32_31 : BitVec 32 := 0#32
  let v46 : BitVec 1 := Scalar.cmpi .eq c4_i32_30 c0_i32_31
  let c1_i32_32 : BitVec 32 := 1#32
  let v47 : BitVec 32 := Scalar.select v46 c1_i32_32 c4_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c128_i32 : BitVec 32 := 128#32
  let v56 : BitVec 32 := Scalar.muli v55 c128_i32
  let v60 : Index := Scalar.indexCast v56
  let c0_37 : Index := 0#32
  ![v60.toNat, 0]
def k0_off3 (d0 : Dev nD) (c2_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c2_i32_29
  let c4_i32_30 : BitVec 32 := 4#32
  let c0_i32_31 : BitVec 32 := 0#32
  let v46 : BitVec 1 := Scalar.cmpi .eq c4_i32_30 c0_i32_31
  let c1_i32_32 : BitVec 32 := 1#32
  let v47 : BitVec 32 := Scalar.select v46 c1_i32_32 c4_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c128_i32 : BitVec 32 := 128#32
  let v56 : BitVec 32 := Scalar.muli v55 c128_i32
  let v63 : Index := Scalar.indexCast v56
  let c1 : Index := 1#32
  ![v63.toNat, 1]
def k0_dev4 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_29 : BitVec 32 := 2#32
  let v45 : BitVec 32 := Scalar.addi v2 c2_i32_29
  let c4_i32_30 : BitVec 32 := 4#32
  let c0_i32_31 : BitVec 32 := 0#32
  let v46 : BitVec 1 := Scalar.cmpi .eq c4_i32_30 c0_i32_31
  let c1_i32_32 : BitVec 32 := 1#32
  let v47 : BitVec 32 := Scalar.select v46 c1_i32_32 c4_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c1_i32_82 : BitVec 32 := 1#32
  let v165 : BitVec 32 := Scalar.muli v55 c1_i32_82
  let v166 : BitVec 32 := Scalar.addi c0_i32_83 v165
  v166.toNat
def k0_dev5 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_88 : BitVec 32 := 1#32
  let v175 : BitVec 32 := Scalar.addi v2 c1_i32_88
  let c4_i32_89 : BitVec 32 := 4#32
  let c0_i32_90 : BitVec 32 := 0#32
  let v176 : BitVec 1 := Scalar.cmpi .eq c4_i32_89 c0_i32_90
  let c1_i32_91 : BitVec 32 := 1#32
  let v177 : BitVec 32 := Scalar.select v176 c1_i32_91 c4_i32_89
  let v178 : BitVec 32 := Scalar.remsi v175 v177
  let c0_i32_93 : BitVec 32 := 0#32
  let v180 : BitVec 1 := Scalar.cmpi .slt v178 c0_i32_93
  let c0_i32_94 : BitVec 32 := 0#32
  let v181 : BitVec 1 := Scalar.cmpi .slt v177 c0_i32_94
  let v182 : BitVec 1 := Scalar.xori v180 v181
  let c0_i32_92 : BitVec 32 := 0#32
  let v179 : BitVec 1 := Scalar.cmpi .ne v178 c0_i32_92
  let v183 : BitVec 1 := Scalar.andi v182 v179
  let v184 : BitVec 32 := Scalar.addi v178 v177
  let v185 : BitVec 32 := Scalar.select v183 v184 v178
  let c1_i32_146 : BitVec 32 := 1#32
  let v295 : BitVec 32 := Scalar.muli v185 c1_i32_146
  let v296 : BitVec 32 := Scalar.addi c0_i32_147 v295
  v296.toNat
def k0_dev6 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_152 : BitVec 32 := 3#32
  let v305 : BitVec 32 := Scalar.addi v2 c3_i32_152
  let c4_i32_153 : BitVec 32 := 4#32
  let c0_i32_154 : BitVec 32 := 0#32
  let v306 : BitVec 1 := Scalar.cmpi .eq c4_i32_153 c0_i32_154
  let c1_i32_155 : BitVec 32 := 1#32
  let v307 : BitVec 32 := Scalar.select v306 c1_i32_155 c4_i32_153
  let v308 : BitVec 32 := Scalar.remsi v305 v307
  let c0_i32_157 : BitVec 32 := 0#32
  let v310 : BitVec 1 := Scalar.cmpi .slt v308 c0_i32_157
  let c0_i32_158 : BitVec 32 := 0#32
  let v311 : BitVec 1 := Scalar.cmpi .slt v307 c0_i32_158
  let v312 : BitVec 1 := Scalar.xori v310 v311
  let c0_i32_156 : BitVec 32 := 0#32
  let v309 : BitVec 1 := Scalar.cmpi .ne v308 c0_i32_156
  let v313 : BitVec 1 := Scalar.andi v312 v309
  let v314 : BitVec 32 := Scalar.addi v308 v307
  let v315 : BitVec 32 := Scalar.select v313 v314 v308
  let c1_i32_210 : BitVec 32 := 1#32
  let v425 : BitVec 32 := Scalar.muli v315 c1_i32_210
  let v426 : BitVec 32 := Scalar.addi c0_i32_211 v425
  v426.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_216 : BitVec 32 := 128#32
  let v435 : BitVec 32 := Scalar.muli v2 c128_i32_216
  let v436 : Index := Scalar.indexCast v435
  let c0_217 : Index := 0#32
  ![v436.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_216 : BitVec 32 := 128#32
  let v435 : BitVec 32 := Scalar.muli v2 c128_i32_216
  let v439 : Index := Scalar.indexCast v435
  let c0_218 : Index := 0#32
  ![v439.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_216 : BitVec 32 := 128#32
  let v435 : BitVec 32 := Scalar.muli v2 c128_i32_216
  let v442 : Index := Scalar.indexCast v435
  let c1_219 : Index := 1#32
  ![v442.toNat, 1]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S512x16 : Shape := ⟨2, ![512, 16]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 87
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x2, .i32⟩
  | .hbm, ⟨3, _⟩ => ⟨S16x256x512, .f32⟩
  | .hbm, ⟨4, _⟩ => ⟨S512x16, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x16, .f32⟩
  | .hbm, ⟨9, _⟩ => ⟨S512x16, .f32⟩
  | .hbm, ⟨10, _⟩ => ⟨S512x16, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x16, .f32⟩
  | .hbm, ⟨15, _⟩ => ⟨S512x16, .f32⟩
  | .hbm, ⟨16, _⟩ => ⟨S512x1, .i32⟩
  | .hbm, ⟨17, _⟩ => ⟨S512, .i32⟩
  | .hbm, ⟨18, _⟩ => ⟨S512x1, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S512x1, .i32⟩
  | .hbm, ⟨37, _⟩ => ⟨S512x2, .i32⟩
  | .hbm, ⟨38, _⟩ => ⟨S512, .f32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S512x1, .i32⟩
  | .hbm, ⟨55, _⟩ => ⟨S512x2, .i32⟩
  | .hbm, ⟨56, _⟩ => ⟨S512, .f32⟩
  | .hbm, ⟨57, _⟩ => ⟨S512, .f32⟩
  | .hbm, ⟨58, _⟩ => ⟨S_, .i32⟩
  | .hbm, ⟨59, _⟩ => ⟨S512, .i32⟩
  | .hbm, ⟨60, _⟩ => ⟨S512, .i1⟩
  | .hbm, ⟨61, _⟩ => ⟨S_, .i32⟩
  | .hbm, ⟨62, _⟩ => ⟨S512, .i32⟩
  | .hbm, ⟨63, _⟩ => ⟨S512, .i32⟩
  | .hbm, ⟨64, _⟩ => ⟨S512, .i32⟩
  | .hbm, ⟨65, _⟩ => ⟨S512x1, .i32⟩
  | .hbm, ⟨66, _⟩ => ⟨S512x256x512, .f32⟩
  | .hbm, ⟨67, _⟩ => ⟨S512x512, .f32⟩
  | .hbm, ⟨68, _⟩ => ⟨S_, .i32⟩
  | .hbm, ⟨69, _⟩ => ⟨S512, .i32⟩
  | .hbm, ⟨70, _⟩ => ⟨S512, .i1⟩
  | .hbm, ⟨71, _⟩ => ⟨S_, .i32⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S512x256x512, .f32⟩
  | .hbm, ⟨77, _⟩ => ⟨S512x512, .f32⟩
  | .hbm, ⟨78, _⟩ => ⟨S512, .f32⟩
  | .hbm, ⟨79, _⟩ => ⟨S512x1, .f32⟩
  | .hbm, ⟨80, _⟩ => ⟨S512x512, .f32⟩
  | .hbm, ⟨81, _⟩ => ⟨S512x512, .f32⟩
  | .hbm, ⟨82, _⟩ => ⟨S512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Protocol.lean ====
/-
# The exchange protocol of the four devices

Each device computes, for each of the three others, the partial output rows that the other one owns, and sends
them into one of three slots of the receiver's `comm` scratch buffer. Slot `k` always carries the partials for the
device `shift k` places ahead (`2`, `1`, `3` places for the slots `0`, `1`, `2`), so slot `k` of a device is filled
by the device `shift k` places behind it and by nobody else.

Cells, per device: the runtime's barrier semaphore, three send semaphores, three receive semaphores. Every cell has
the single round 0.

* Barrier: three duties of one unit, named by the slot. Duty `k` of device `c`'s barrier is paid by the device
  `tgt k c` that `c` sends its slot `k` to, and hands over that device's landing slot `k`.
* Send cell `k`: the departed slot of the sender's own `send` buffer comes back.
* Receive cell `k`: the landing slot `k`, holding what the device `src k c` computed for `c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Writes
public import Idealize.ShloMosaic.Lib.Pipeline.Value
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- The exchange's rounds: cells are semaphores, duties are slots. -/
abbrev UX : Type := URounds (GSem nD τ sig) (Fin 3)
/-- The pipeline's own resources beside the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## Who sends to whom -/

/-- How many places ahead slot `k` travels. -/
def shift : Fin 3 → ℕ := ![2, 1, 3]

set_option backward.proofsInPublic true in
/-- The device that device `c` sends its slot `k` to. -/
def tgt (k : Fin 3) (c : Dev nD) : Dev nD := ⟨(c.val + shift k) % 4, Nat.mod_lt _ (by decide)⟩
set_option backward.proofsInPublic true in
/-- The device that fills slot `k` of device `c`. -/
def src (k : Fin 3) (c : Dev nD) : Dev nD := ⟨(c.val + (4 - shift k)) % 4, Nat.mod_lt _ (by decide)⟩
/-- The slot that travels back: what `c` sends along slot `k` is answered along slot `back k`. -/
def back : Fin 3 → Fin 3 := ![0, 2, 1]

theorem src_tgt (k : Fin 3) (c : Dev nD) : src k (tgt k c) = c := by revert k c; decide
theorem tgt_src (k : Fin 3) (c : Dev nD) : tgt k (src k c) = c := by revert k c; decide
theorem tgt_back (k : Fin 3) (c : Dev nD) : tgt (back k) (tgt k c) = c := by revert k c; decide
theorem back_back (k : Fin 3) : back (back k) = k := by revert k; decide

/-- Travel along slot `k`, as a permutation of the devices. -/
def travel (k : Fin 3) : Dev nD ≃ Dev nD := ⟨tgt k, src k, src_tgt k, tgt_src k⟩

/-- The six device numbers the kernel computes: three for its signals, three for its transfers. -/
theorem dev1_eq : ∀ c : Dev nD, (⟨k0_dev1 c, k0_dev1_lt c⟩ : Dev nD) = tgt 0 c := by decide +kernel
theorem dev2_eq : ∀ c : Dev nD, (⟨k0_dev2 c, k0_dev2_lt c⟩ : Dev nD) = tgt 1 c := by decide +kernel
theorem dev3_eq : ∀ c : Dev nD, (⟨k0_dev3 c, k0_dev3_lt c⟩ : Dev nD) = tgt 2 c := by decide +kernel
theorem dev4_eq : ∀ c : Dev nD, (⟨k0_dev4 c, k0_dev4_lt c⟩ : Dev nD) = tgt 0 c := by decide +kernel
theorem dev5_eq : ∀ c : Dev nD, (⟨k0_dev5 c, k0_dev5_lt c⟩ : Dev nD) = tgt 1 c := by decide +kernel
theorem dev6_eq : ∀ c : Dev nD, (⟨k0_dev6 c, k0_dev6_lt c⟩ : Dev nD) = tgt 2 c := by decide +kernel

/-! ## Slots -/

abbrev sendM : Memref sig .tc .vmem S3x128x512 .bf16 := Memref.whole cc0_scratch0
abbrev commM : Memref sig .tc .vmem S3x128x512 .bf16 := Memref.whole cc0_scratch1

theorem slot_inb (k : Fin 3) : ∀ a, (![k.val, 0, 0] : Fin 3 → Nat) a + S1x128x512.size a ≤ S3x128x512.size a := by
  revert k; decide
theorem sem_inb (k : Fin 3) : ∀ a, (![k.val] : Fin 1 → Nat) a + S1.size a ≤ S3.size a := by revert k; decide

/-- The rectangle of slot `k` in a scratch buffer. -/
abbrev slotR (k : Fin 3) : Rect S3x128x512 := Rect.unit (s := S3x128x512) ![k.val, 0, 0] S1x128x512.size (slot_inb k)

/-- Slot `k` of a scratch buffer with its unit axis dropped, as the transfers name it. -/
abbrev slotM (M : Memref sig .tc .vmem S3x128x512 .bf16) (k : Fin 3) : Memref sig .tc .vmem S128x512 .bf16 :=
  (M.slice (slotR k) (fun _ => rfl)).squeeze S128x512 squeezes_S1x128x512_S128x512

abbrev sendS (k : Fin 3) : DmaSem sig :=
  ((cc0_scratch2.slice (Rect.unit (s := S3) ![k.val] S1.size (sem_inb k))).squeeze S_ squeezes_S1_S_).sem
abbrev recvS (k : Fin 3) : DmaSem sig :=
  ((cc0_scratch3.slice (Rect.unit (s := S3) ![k.val] S1.size (sem_inb k))).squeeze S_ squeezes_S1_S_).sem
/-- The runtime's barrier semaphore. -/
abbrev barS : Sem sig := (SemArray.scalar (sig.barrier 0 rfl) : Sems sig S_).sem

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- The bytes one slot's transfer credits. -/
abbrev N : ℕ := (slotM commM 0).view.dmaCredit
theorem N_pos : 0 < N := View.dmaCredit_pos _ (by decide)
theorem credit_comm (k : Fin 3) : (slotM commM k).view.dmaCredit = N := by fin_cases k <;> rfl
theorem credit_send (k : Fin 3) : (slotM sendM k).view.dmaCredit = N := by fin_cases k <;> rfl

/-- Slot `k` of a scratch buffer of device `c`, held whole at contents `f`. -/
def slotPts (M : Memref sig .tc .vmem S3x128x512 .bf16) (k : Fin 3) (c : Dev nD)
    (f : Buf (Elt F) ((M.access (slotR k)).loc (c : Thread nD τ))) : sProp 𝕄 :=
  (M.access (slotR k)).loc (c : Thread nD τ) ↦[(M.access (slotR k)).set]{fullShare} f

omit [FloatOps F] in
instance slotPts_storable (M) (k : Fin 3) (c : Dev nD) (f) : BI.Storable (upEmb : UEmb _ 𝕄) (slotPts (F := F) M k c f) := by
  unfold slotPts; infer_instance

omit [FloatOps F] in
theorem slotPts_squeezed (M : Memref sig .tc .vmem S3x128x512 .bf16) (k : Fin 3) (c : Dev nD) (f) :
    slotPts (F := F) M k c f = ((slotM M k).view.loc (c : Thread nD τ) ↦[(slotM M k).view.set]{fullShare} f : sProp 𝕄) := by
  unfold slotPts; rw [Memref.set_view_squeeze]

/-- What a slot holds. -/
abbrev slotVal (M : Memref sig .tc .vmem S3x128x512 .bf16) (k : Fin 3) (f : M.view.ty.Contents (Elt F)) :
    S1x128x512.Idx → Elt F .bf16 := (M.access (slotR k)).read (Elt F) f

omit [FloatOps F] in
/-- A transfer lands in the slot what the departing slot held. -/
theorem slotVal_transfer (M M' : Memref sig .tc .vmem S3x128x512 .bf16) (k : Fin 3) (fd : M'.view.ty.Contents (Elt F))
    (fs : M.view.ty.Contents (Elt F)) :
    slotVal M' k ((slotM M' k).view.write (Elt F) fd ((slotM M k).view.read (Elt F) fs) Finset.univ) = slotVal M k fs := by
  have hw := View.write_reshape_univ (v := M'.access (slotR k)) (s' := S128x512) (Val := Elt F) (show S128x512.numel = S1x128x512.numel by decide) fd
    ((slotM M k).view.read (Elt F) fs)
  refine (congrArg ((M'.access (slotR k)).read (Elt F)) hw).trans ((View.read_write_univ _ _).trans (funext fun x => ?_))
  have he : (slotM M k).view.emb ((Shape.reshapeEquiv (s := S1x128x512) (s' := S128x512) (by decide)).symm x)
      = (M.access (slotR k)).emb x := by
    show ((M.access (slotR k)).reshape S128x512 _).emb _ = _
    simp
  exact (View.read_apply (v := (slotM M k).view) fs _).trans ((congrArg (fun i => _root_.cast _ (fs i)) he).trans (View.read_apply (v := M.access (slotR k)) fs x).symm)

/-! ## Splitting a scratch buffer into its slots -/

omit [FloatOps F] in
theorem mem_slot (k : Fin 3) (i : S3x128x512.Idx) : i ∈ (slotR k).set ↔ (i 0).val = k.val := by
  rw [Rect.mem_set_unit]
  constructor
  · intro h
    obtain ⟨h0, h1⟩ := h 0
    have h0 : k.val ≤ (i 0).val := h0
    have h1 : (i 0).val < k.val + 1 := h1
    omega
  · intro h a
    have hb := (i a).isLt
    fin_cases a
    · exact ⟨le_of_eq h.symm, by show (i 0).val < k.val + 1; omega⟩
    · exact ⟨Nat.zero_le _, by show (i 1).val < 0 + 128; have : (i 1).val < 128 := hb; omega⟩
    · exact ⟨Nat.zero_le _, by show (i 2).val < 0 + 512; have : (i 2).val < 512 := hb; omega⟩

omit [FloatOps F] in
theorem slot_disjoint (M : Memref sig .tc .vmem S3x128x512 .bf16) {k k' : Fin 3} (h : k ≠ k') :
    Disjoint (M.access (slotR k)).set (M.access (slotR k')).set := by
  rw [View.set_slice, View.set_slice]
  refine (Finset.disjoint_map _).mpr (Finset.disjoint_left.mpr fun i h1 h2 => h (Fin.ext ?_))
  rw [mem_slot] at h1 h2
  exact h1.symm.trans h2

omit [FloatOps F] in
theorem slot_cover (M : Memref sig .tc .vmem S3x128x512 .bf16) :
    Finset.univ.biUnion (fun k : Fin 3 => (M.access (slotR k)).set) = M.view.set := by
  have h : (Finset.univ : Finset S3x128x512.Idx) = Finset.univ.biUnion fun k : Fin 3 => (slotR k).set := by
    ext i
    simp only [Finset.mem_univ, Finset.mem_biUnion, true_and, true_iff]
    exact ⟨⟨(i 0).val, (i 0).isLt⟩, (mem_slot _ _).mpr rfl⟩
  ext i
  constructor
  · intro hi
    obtain ⟨k, -, hk⟩ := Finset.mem_biUnion.mp hi
    obtain ⟨x, -, rfl⟩ := Finset.mem_map.mp hk
    exact View.emb_mem_set _ _
  · intro hi
    obtain ⟨x, -, rfl⟩ := Finset.mem_map.mp hi
    have hx : x ∈ Finset.univ.biUnion fun k : Fin 3 => (slotR k).set := h ▸ Finset.mem_univ x
    obtain ⟨k, -, hk⟩ := Finset.mem_biUnion.mp hx
    refine Finset.mem_biUnion.mpr ⟨k, Finset.mem_univ _, ?_⟩
    rw [View.set_slice]
    exact Finset.mem_map_of_mem _ hk

omit [FloatOps F] in
theorem bigSep_slots (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A whole scratch buffer is its three slots. -/
theorem slots_split (M : Memref sig .tc .vmem S3x128x512 .bf16) (c : Dev nD) (f : Buf (Elt F) (M.view.loc (c : Thread nD τ))) :
    (M.view.loc (c : Thread nD τ) ↦[M.view.set]{fullShare} f : sProp 𝕄)
      = iprop(slotPts M 0 c f ∗ slotPts M 1 c f ∗ slotPts M 2 c f) := by
  rw [← slot_cover M, pointsTo_biUnion _ _ (fun k _ k' _ h => slot_disjoint M h), bigSep_slots]
  rfl

omit [FloatOps F] in
/-- Its three slots, whatever each holds, are the whole scratch buffer again. -/
theorem slots_join (M : Memref sig .tc .vmem S3x128x512 .bf16) (c : Dev nD) (f₀ f₁ f₂ : Buf (Elt F) (M.view.loc (c : Thread nD τ))) :
    iprop(slotPts M 0 c f₀ ∗ slotPts M 1 c f₁ ∗ slotPts M 2 c f₂)
      ⊢ (iprop(∃ f, M.view.loc (c : Thread nD τ) ↦[M.view.set]{fullShare} f) : sProp 𝕄) := by
  have h := pointsTo_biUnion_join (Ix := Unit) (Name := ℕ) (U := UU) (Lvl := ℕ) (q := fullShare) (ℓ := M.view.loc (c : Thread nD τ)) (Val := Elt F)
    Finset.univ (fun k : Fin 3 => (M.access (slotR k)).set) (fun k => match k with | 0 => f₀ | 1 => f₁ | 2 => f₂) f₀
    (fun k _ k' _ h => slot_disjoint M h)
  rw [bigSep_slots, slot_cover] at h
  refine (show _ ⊢ _ from h).trans ?_
  iintro ⟨%g, -, H⟩
  iexists g; iexact H

/-! ## The schedule -/

section Schedule

-- `snt c k`: what device `c` puts into its slot `k` before sending it.
variable (snt : Dev nD → Fin 3 → (S1x128x512.Idx → Elt F .bf16))

def barPay (c : Dev nD) (k : Fin 3) : sProp 𝕄 := iprop(∃ f, slotPts commM k (tgt k c) f)
def sendPay (c : Dev nD) (k : Fin 3) : sProp 𝕄 := iprop(∃ f, slotPts sendM k c f)
def recvPay (c : Dev nD) (k : Fin 3) : sProp 𝕄 := iprop(∃ f, ⌜slotVal commM k f = snt (src k c) k⌝ ∗ slotPts commM k c f)

/-- The kinds of cells of one device. -/
inductive Kind3 | bar | send (k : Fin 3) | recv (k : Fin 3)
  deriving DecidableEq

/-- Which of the exchange's cells a semaphore is, if any. -/
def kindOf (sm : SemLoc sig) : Option Kind3 :=
  if sm = .reg barS then some .bar
  else if sm = .dma (sendS 0) then some (.send 0) else if sm = .dma (sendS 1) then some (.send 1)
  else if sm = .dma (sendS 2) then some (.send 2) else if sm = .dma (recvS 0) then some (.recv 0)
  else if sm = .dma (recvS 1) then some (.recv 1) else if sm = .dma (recvS 2) then some (.recv 2) else none

theorem kindOf_bar : kindOf (.reg barS) = some .bar := by decide
theorem kindOf_send (k : Fin 3) : kindOf (.dma (sendS k)) = some (.send k) := by revert k; decide
theorem kindOf_recv (k : Fin 3) : kindOf (.dma (recvS k)) = some (.recv k) := by revert k; decide

def dutiesOf : Option Kind3 → Finset (Fin 3) | some .bar => Finset.univ | some (.send k) => {k} | some (.recv k) => {k} | none => ∅
def amountOf' : Option Kind3 → ℕ | some .bar => 1 | _ => N
def payloadOf (c : Dev nD) (d : Fin 3) : Option Kind3 → sProp 𝕄
  | some .bar => barPay c d | some (.send k) => sendPay c k | some (.recv k) => recvPay snt c k | none => iprop(emp)

/-- The schedule: one round, its duties, amounts and payloads read off the cell's kind. -/
def sched : Rounds.Schedule (GSem nD τ sig) (Fin 3) 𝕄 where
  duties g r := if r = 0 ∧ g.1.2 = .tc then dutiesOf (kindOf g.2) else ∅
  unitless _ := False
  amount g _ _ := amountOf' (kindOf g.2)
  payload g _ d := payloadOf snt g.1.1 d (kindOf g.2)
  amount_pos g _ _ _ := by
    unfold amountOf'
    split
    · exact Nat.one_pos
    · exact N_pos

instance sched_payload_storable (g : GSem nD τ sig) (r : ℕ) (d : Fin 3) :
    BI.Storable (upEmb : UEmb _ 𝕄) ((sched snt).payload g r d) := by
  show BI.Storable upEmb (payloadOf snt g.1.1 d (kindOf g.2))
  unfold payloadOf barPay sendPay recvPay
  split <;> infer_instance

variable (c : Dev nD) (k : Fin 3)

omit [FloatOps F] in
theorem duties_bar : (sched snt).duties (barCell c) 0 = Finset.univ := by
  dsimp only [sched]; rw [if_pos ⟨rfl, rfl⟩, kindOf_bar]; rfl
omit [FloatOps F] in
theorem duties_send : (sched snt).duties (sendCell k c) 0 = {k} := by
  dsimp only [sched]; rw [if_pos ⟨rfl, rfl⟩, kindOf_send]; rfl
omit [FloatOps F] in
theorem duties_recv : (sched snt).duties (recvCell k c) 0 = {k} := by
  dsimp only [sched]; rw [if_pos ⟨rfl, rfl⟩, kindOf_recv]; rfl
omit [FloatOps F] in
theorem duties_later (g : GSem nD τ sig) : ∀ r, 1 ≤ r → (sched snt).duties g r = ∅ :=
  fun r hr => by dsimp only [sched]; exact if_neg fun h => by omega

omit [FloatOps F] in
theorem amount_bar (d : Fin 3) : (sched snt).amount (barCell c) 0 d = 1 := by
  dsimp only [sched]; rw [kindOf_bar]; rfl
omit [FloatOps F] in
theorem amount_send (d : Fin 3) : (sched snt).amount (sendCell k c) 0 d = N := by
  dsimp only [sched]; rw [kindOf_send]; rfl
omit [FloatOps F] in
theorem amount_recv (d : Fin 3) : (sched snt).amount (recvCell k c) 0 d = N := by
  dsimp only [sched]; rw [kindOf_recv]; rfl

omit [FloatOps F] in
theorem expect_bar : (sched snt).expect (barCell c) 0 = 3 := by
  unfold Schedule.expect Schedule.amountOf
  rw [duties_bar, Finset.sum_congr rfl fun d _ => amount_bar snt c d]; rfl
omit [FloatOps F] in
theorem expect_send : (sched snt).expect (sendCell k c) 0 = N := by
  unfold Schedule.expect Schedule.amountOf; rw [duties_send, Finset.sum_singleton, amount_send]
omit [FloatOps F] in
theorem expect_recv : (sched snt).expect (recvCell k c) 0 = N := by
  unfold Schedule.expect Schedule.amountOf; rw [duties_recv, Finset.sum_singleton, amount_recv]

omit [FloatOps F] in
theorem payload_bar (d : Fin 3) : (sched snt).payload (barCell c) 0 d = barPay c d := by
  dsimp only [sched]; rw [kindOf_bar]; rfl
omit [FloatOps F] in
theorem payload_send (d : Fin 3) : (sched snt).payload (sendCell k c) 0 d = sendPay c k := by
  dsimp only [sched]; rw [kindOf_send]; rfl
omit [FloatOps F] in
theorem payload_recv (d : Fin 3) : (sched snt).payload (recvCell k c) 0 d = recvPay snt c k := by
  dsimp only [sched]; rw [kindOf_recv]; rfl

omit [FloatOps F] in
/-- What a device gets from its barrier: the three landing slots it is going to write. -/
theorem rest_bar : bigSep ((sched snt).duties (barCell c) 0 \ ∅) (fun d => (sched snt).payload (barCell c) 0 d)
    = iprop(barPay c 0 ∗ barPay c 1 ∗ barPay c 2) := by
  rw [Finset.sdiff_empty, duties_bar, bigSep_slots, payload_bar, payload_bar, payload_bar]
omit [FloatOps F] in
theorem rest_send : bigSep ((sched snt).duties (sendCell k c) 0 \ ∅) (fun d => (sched snt).payload (sendCell k c) 0 d) = sendPay c k := by
  rw [Finset.sdiff_empty, duties_send, bigSep_singleton, payload_send]
omit [FloatOps F] in
theorem rest_recv : bigSep ((sched snt).duties (recvCell k c) 0 \ ∅) (fun d => (sched snt).payload (recvCell k c) 0 d) = recvPay snt c k := by
  rw [Finset.sdiff_empty, duties_recv, bigSep_singleton, payload_recv]

end Schedule

/-! ## What each device owes, and the order of waiting -/

abbrev recvDue (k : Fin 3) (c : Dev nD) : CellTallies nD τ sig Unit := tallyAt (recvCell k (tgt k c)) () N
abbrev barDue (k : Fin 3) (c : Dev nD) : CellTallies nD τ sig Unit := tallyAt (barCell (tgt k c)) () 1

/-- The transfers device `c` still owes after its three signals, last one first. -/
def owedSends (c : Dev nD) : CellTallies nD τ sig Unit := 0 + recvDue 2 c + recvDue 1 c + recvDue 0 c
/-- All it owes at launch: the transfers and a unit to each of the three barriers it signals. -/
def O₀ (c : Dev nD) : CellTallies nD τ sig Unit := owedSends c + barDue 2 c + barDue 1 c + barDue 0 c

def L (g : GSem nD τ sig) : Finset Unit := if g.1.2 = .tc then {()} else ∅
def level : Option Kind3 → ℕ | some .bar => 1 | some (.recv _) => 2 | _ => 0
/-- Barriers before landings; everything else first. -/
def lv (g : GSem nD τ sig) (_ : Unit) : ℕ := level (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {u : Unit} {n : ℕ} (h : 0 < tallyAt (nD := nD) g () n g' u) : g' = g := by
  rw [tallyAt_apply] at h
  by_contra hn
  rw [if_neg fun h' => hn h'.1] at h
  exact Nat.lt_irrefl 0 h

theorem owedSends_pos {c : Dev nD} {g : GSem nD τ sig} {u : Unit} (h : 0 < owedSends c g u) :
    ∃ k, g = recvCell k (tgt k c) := by
  unfold owedSends at h
  simp only [Pi.add_apply, Finsupp.add_apply, Pi.zero_apply, Finsupp.zero_apply] at h
  by_contra hn
  have hz : ∀ k, recvDue k c g u = 0 := fun k => Nat.eq_zero_of_not_pos fun hp => hn ⟨k, tallyAt_pos hp⟩
  rw [hz 0, hz 1, hz 2] at h
  exact Nat.lt_irrefl 0 h

theorem O₀_pos {c : Dev nD} {g : GSem nD τ sig} {u : Unit} (h : 0 < O₀ c g u) :
    (∃ k, g = recvCell k (tgt k c)) ∨ ∃ k, g = barCell (tgt k c) := by
  unfold O₀ at h
  simp only [Pi.add_apply, Finsupp.add_apply] at h
  by_contra hn
  rw [not_or] at hn
  have hz : ∀ k, barDue k c g u = 0 := fun k => Nat.eq_zero_of_not_pos fun hp => hn.2 ⟨k, tallyAt_pos hp⟩
  rw [hz 0, hz 1, hz 2] at h
  exact hn.1 (owedSends_pos h)

omit [FloatOps F] in
/-- A device may wait for a staging transfer whatever of its launch debt it still owes. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; dsimp only [lv]; rw [hq]; exact Nat.le_refl 0)
      (fun g u hg => by
        rcases O₀_pos hg with ⟨k, rfl⟩ | ⟨k, rfl⟩
        · dsimp only [lv]; rw [kindOf_recv]; exact Nat.succ_pos _
        · dsimp only [lv]; rw [kindOf_bar]; exact Nat.succ_pos _)
  · rw [MayWait_zero]; iintro -; iempintro

omit [FloatOps F] in
/-- At its barrier a device owes landings only, and they come after barriers. -/
theorem mayWait_bar (c : Dev nD) : (levAts L lv : sProp 𝕄) ⊢ MayWait (c : Thread nD τ) (.reg barS) () (owedSends c) :=
  MayOwe.of_cut (L := L) (lev := lv) 1 (fun p hp => by rw [Finset.mem_singleton.mp hp, L_tc]; exact Finset.mem_singleton_self _)
    (fun g u hg => by obtain ⟨k, rfl⟩ := owedSends_pos hg; exact Finset.mem_singleton_self _)
    (fun p hp => by rw [Finset.mem_singleton.mp hp]; dsimp only [lv]; rw [kindOf_bar]; exact Nat.le_refl 1)
    (fun g u hg => by obtain ⟨k, rfl⟩ := owedSends_pos hg; dsimp only [lv]; rw [kindOf_recv]; exact Nat.lt_succ_self 1)

end Cert.Exchange

end
-- ==== Proof.Contents.lean ====
/-
# What the kernel computes

The partial outputs, as compositions of the payloads the kernel's loads, stores and sends carry: for each of the
three peers the block a device puts into a slot of its `send` buffer, for itself the block it keeps, and the sum
it stores once the three blocks addressed to it have landed.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.Sem

variable {F : FTy → Type} [FloatOps F]

/-! ## From the loaded blocks -/

section Loaded

variable (v2 : BitVec 32) (r : Vec F S256x16 .f32) (x : Vec F S128x256 .f32) (i j : Vec F S128x1 .i32)
  (w0 w1 w2 w3 : Vec F S1x256x512 .f32)

/-- The block for the peer two places ahead, sent in slot 0. -/
def sent0 : Vec F S1x128x512 .bf16 :=
  k0_pay16 (k0_pay2 x) (k0_pay11 (k0_pay3 i) (k0_pay4 j) (k0_pay5 r x))
    (k0_pay13 v2 (k0_pay2 x) (k0_pay3 i) (k0_pay4 j) (k0_pay10 (k0_pay3 i) (k0_pay4 j) (k0_pay5 r x))
      (k0_pay11 (k0_pay3 i) (k0_pay4 j) (k0_pay5 r x)) (k0_pay12 v2 (k0_pay2 x) (k0_pay3 i) (k0_pay4 j) (k0_pay5 r x) w0)
      (Scalar.muli v2 4#32) w1 w2)
    (k0_pay14 v2 (k0_pay3 i) (k0_pay10 (k0_pay3 i) (k0_pay4 j) (k0_pay5 r x))) (k0_pay15 v2 (k0_pay4 j))
    (Scalar.ofBits .f32 0x00000000#32) w3

/-- The block for the peer one place ahead, sent in slot 1. -/
def sent1 : Vec F S1x128x512 .bf16 :=
  k0_pay31 v2 (k0_pay17 x) (k0_pay18 i) (k0_pay19 j) (k0_pay24 (k0_pay1 r) x i j) (k0_pay25 (k0_pay1 r) x i j)
    (k0_pay29 v2 (k0_pay17 x) (k0_pay18 i) (k0_pay19 j) (k0_pay24 (k0_pay1 r) x i j) (k0_pay25 (k0_pay1 r) x i j)
      (k0_pay26 (F := F)) (k0_pay27 v2 (k0_pay1 r) x i j) (k0_pay28 v2 j) w0 w1)
    (k0_pay30 v2 (k0_pay17 x) (k0_pay18 i) (k0_pay19 j) (k0_pay24 (k0_pay1 r) x i j) (k0_pay25 (k0_pay1 r) x i j)) w2 w3

/-- The block for the peer three places ahead, sent in slot 2. -/
def sent2 : Vec F S1x128x512 .bf16 :=
  k0_pay43 v2 (k0_pay32 x) (k0_pay33 i) (k0_pay34 j)
    (k0_pay39 (k0_pay36 (k0_pay1 r) x i) (k0_pay37 (k0_pay1 r) x j))
    (k0_pay40 (k0_pay36 (k0_pay1 r) x i) (k0_pay37 (k0_pay1 r) x j))
    (k0_pay41 v2 (k0_pay32 x) (k0_pay33 i) (k0_pay34 j) (k0_pay36 (k0_pay1 r) x i) (k0_pay37 (k0_pay1 r) x j) w0 w1)
    (Scalar.addi (Scalar.muli v2 4#32) 2#32) (k0_pay42 v2) w2 w3

/-- The block a device computes for itself. -/
def kept : FVec F S128x512 .f32 :=
  k0_pay55 v2 (k0_pay44 x) (k0_pay45 i) (k0_pay46 j) (k0_pay51 (k0_pay1 r) x i j)
    (k0_pay52 (k0_pay49 (k0_pay1 r) x j) (k0_pay50 (k0_pay1 r) x i j))
    (k0_pay53 v2 (k0_pay44 x) (k0_pay45 i) (k0_pay46 j) (k0_pay49 (k0_pay1 r) x j) (k0_pay50 (k0_pay1 r) x i j)
      (k0_pay51 (k0_pay1 r) x i j) w0 w1)
    (Scalar.addi (Scalar.muli v2 4#32) 2#32) (k0_pay54 v2 (k0_pay45 i)) (Scalar.ofBits .f32 0x00000000#32) w2 w3

/-- The sum stored in the end: the kept block and the three received ones, in the kernel's order. -/
def total (own : FVec F S128x512 .f32) (g0 g1 g2 : Vec F S1x128x512 .bf16) : FVec F S128x512 .f32 :=
  k0_pay58 (k0_pay56 own g0 g1) (k0_pay57 g2)

end Loaded

/-! ## From the staged arrays -/

abbrev xM : Memref sig .tc .vmem S512x256 .f32 := Memref.whole cc0_stg0_0
abbrev rM : Memref sig .tc .vmem S256x16 .f32 := Memref.whole cc0_stg1_0
abbrev iM : Memref sig .tc .vmem S512x2 .i32 := Memref.whole cc0_stg2_0
abbrev wM : Memref sig .tc .vmem S4x256x512 .f32 := Memref.whole cc0_stg3_0
abbrev oM : Memref sig .tc .vmem S128x512 .f32 := Memref.whole cc0_stg4_0

/-- The device's place on the mesh axis as the kernel computes it. -/
def place (c : Dev nD) : BitVec 32 := Scalar.remsi (Scalar.divsi (Dev.word c) 1#32) 4#32

section Staged

variable (X : (cc0_stg0_0 : Ref sig .tc).ty.Contents (Elt F)) (R : (cc0_stg1_0 : Ref sig .tc).ty.Contents (Elt F))
  (I : (cc0_stg2_0 : Ref sig .tc).ty.Contents (Elt F)) (W : (cc0_stg3_0 : Ref sig .tc).ty.Contents (Elt F))

def ldR : Vec F S256x16 .f32 :=
  rM.view.readAt (Elt F) (Rect.unit (s := S256x16) ![0, 0] S256x16.size inb_S256x16_S256x16_0_0).toLoadRect R
def ldX (off : Fin 2 → ℕ) (h : ∀ a, off a + S128x256.size a ≤ S512x256.size a) : Vec F S128x256 .f32 :=
  xM.view.readAt (Elt F) (Rect.unit (s := S512x256) off S128x256.size h).toLoadRect X
def ldI (off : Fin 2 → ℕ) (h : ∀ a, off a + S128x1.size a ≤ S512x2.size a) : Vec F S128x1 .i32 :=
  iM.view.readAt (Elt F) (Rect.unit (s := S512x2) off S128x1.size h).toLoadRect I
def ldW (off : Fin 3 → ℕ) (h : ∀ a, off a + S1x256x512.size a ≤ S4x256x512.size a) : Vec F S1x256x512 .f32 :=
  wM.view.readAt (Elt F) (Rect.unit (s := S4x256x512) off S1x256x512.size h).toLoadRect W

/-- What device `c` sends in each slot. -/
def sent (c : Dev nD) (k : Fin 3) : Vec F S1x128x512 .bf16 :=
  match k with
  | 0 => sent0 (place c) (ldR R) (ldX X (k0_off1 c 2#32) (k0_off1_inb c 1)) (ldI I (k0_off2 c 2#32) (k0_off2_inb c 1))
      (ldI I (k0_off3 c 2#32) (k0_off3_inb c 1))
      (ldW W ![0, 0, 0] inb_S4x256x512_S1x256x512_0_0_0) (ldW W ![1, 0, 0] inb_S4x256x512_S1x256x512_1_0_0)
      (ldW W ![2, 0, 0] inb_S4x256x512_S1x256x512_2_0_0) (ldW W ![3, 0, 0] inb_S4x256x512_S1x256x512_3_0_0)
  | 1 => sent1 (place c) (ldR R) (ldX X (k0_off1 c 1#32) (k0_off1_inb c 0)) (ldI I (k0_off2 c 1#32) (k0_off2_inb c 0))
      (ldI I (k0_off3 c 1#32) (k0_off3_inb c 0))
      (ldW W ![0, 0, 0] inb_S4x256x512_S1x256x512_0_0_0) (ldW W ![1, 0, 0] inb_S4x256x512_S1x256x512_1_0_0)
      (ldW W ![2, 0, 0] inb_S4x256x512_S1x256x512_2_0_0) (ldW W ![3, 0, 0] inb_S4x256x512_S1x256x512_3_0_0)
  | 2 => sent2 (place c) (ldR R) (ldX X (k0_off1 c 3#32) (k0_off1_inb c 2)) (ldI I (k0_off2 c 3#32) (k0_off2_inb c 2))
      (ldI I (k0_off3 c 3#32) (k0_off3_inb c 2))
      (ldW W ![0, 0, 0] inb_S4x256x512_S1x256x512_0_0_0) (ldW W ![1, 0, 0] inb_S4x256x512_S1x256x512_1_0_0)
      (ldW W ![2, 0, 0] inb_S4x256x512_S1x256x512_2_0_0) (ldW W ![3, 0, 0] inb_S4x256x512_S1x256x512_3_0_0)

/-- What it keeps. -/
def keeps (c : Dev nD) : FVec F S128x512 .f32 :=
  kept (place c) (ldR R) (ldX X (k0_off4 c) (k0_off4_inb c)) (ldI I (k0_off5 c) (k0_off5_inb c)) (ldI I (k0_off6 c) (k0_off6_inb c))
    (ldW W ![0, 0, 0] inb_S4x256x512_S1x256x512_0_0_0) (ldW W ![1, 0, 0] inb_S4x256x512_S1x256x512_1_0_0)
    (ldW W ![2, 0, 0] inb_S4x256x512_S1x256x512_2_0_0) (ldW W ![3, 0, 0] inb_S4x256x512_S1x256x512_3_0_0)

end Staged

/-! ## From the memory at launch -/

variable (m : (ℓ : Loc nD τ sig) → Buf (Elt F) ℓ)

def stX (c : Dev nD) : (cc0_stg0_0 : Ref sig .tc).ty.Contents (Elt F) :=
  (win0_0.blk (0 : Fin 1)).view.read (Elt F) (m ((c : Thread nD τ).loc main_arg0))
def stR (c : Dev nD) : (cc0_stg1_0 : Ref sig .tc).ty.Contents (Elt F) :=
  (win0_1.blk (0 : Fin 1)).view.read (Elt F) (m ((c : Thread nD τ).loc main_arg1))
def stI (c : Dev nD) : (cc0_stg2_0 : Ref sig .tc).ty.Contents (Elt F) :=
  (win0_2.blk (0 : Fin 1)).view.read (Elt F) (m ((c : Thread nD τ).loc main_arg2))
def stW (c : Dev nD) : (cc0_stg3_0 : Ref sig .tc).ty.Contents (Elt F) :=
  (win0_3.blk (0 : Fin 1)).view.read (Elt F) (m ((c : Thread nD τ).loc main_arg3))

/-- What device `c` sends in slot `k` of a run from memory `m`. -/
def snt (c : Dev nD) (k : Fin 3) : S1x128x512.Idx → Elt F .bf16 := sent (stX m c) (stR m c) (stI m c) (stW m c) c k

/-- What device `c` stores in the end of a run from memory `m`. -/
def outAt (c : Dev nD) : (cc0_stg4_0 : Ref sig .tc).ty.Contents (Elt F) :=
  total (keeps (stX m c) (stR m c) (stI m c) (stW m c) c) (snt m (src 0 c) 0) (snt m (src 1 c) 1) (snt m (src 2 c) 2)

end Cert.Exchange

end
-- ==== Proof.Body.lean ====
/-
# One device's run of the kernel body

The body is run once, at a symbolic device `c`, one rule per effect. The signals, transfers and waits are the three
slots' instances of the four rules stated first.
-/
module

public import proofs.«01_k».proof.Proof.Contents

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## The cells, all together -/

instance : Fintype Kind3 where
  elems := {.bar, .send 0, .send 1, .send 2, .recv 0, .recv 1, .recv 2}
  complete k := by
    cases k with
    | bar => decide
    | send k => revert k; decide
    | recv k => revert k; decide

/-- The semaphore of each kind. -/
def semOf : Kind3 → SemLoc sig | .bar => .reg barS | .send k => .dma (sendS k) | .recv k => .dma (recvS k)
abbrev kcell (ck : Dev nD × Kind3) : GSem nD τ sig := ((ck.1 : Thread nD τ), semOf ck.2)

theorem kindOf_semOf (k : Kind3) : kindOf (semOf k) = some k := by
  cases k
  · exact kindOf_bar
  · exact kindOf_send _
  · exact kindOf_recv _

omit [FloatOps F] in
theorem bigSep_kinds (Φ : Kind3 → sProp 𝕄) : bigSep Finset.univ Φ
    = iprop(Φ .bar ∗ Φ (.send 0) ∗ Φ (.send 1) ∗ Φ (.send 2) ∗ Φ (.recv 0) ∗ Φ (.recv 1) ∗ Φ (.recv 2)) :=
  bigSep_univ_eq_bigSepL (I := Kind3) [Kind3.bar, .send 0, .send 1, .send 2, .recv 0, .recv 1, .recv 2] (by decide) (by decide) Φ

section Run

variable (snt : Dev nD → Fin 3 → (S1x128x512.Idx → Elt F .bf16)) (K : Dev nD × Kind3 → ℕ)

/-- Every cell's invariant, under the names `K`, and that every cell has reached its round. -/
def records : sProp 𝕄 :=
  iprop((bigSep Finset.univ fun ck : Dev nD × Kind3 => cellInv EX (sched snt) (K ck) (kcell ck))
    ∗ bigSep Finset.univ fun ck : Dev nD × Kind3 => reached EX (kcell ck) 0)

omit [FloatOps F] in
instance records_persistent : BI.Persistent (records snt K) := by unfold records; infer_instance

omit [FloatOps F] in
theorem inv_at (ck : Dev nD × Kind3) : records snt K ⊢ cellInv EX (sched snt) (K ck) (kcell ck) := by
  unfold records
  refine BIBase.Entails.trans (?_ : _ ⊢ bigSep Finset.univ fun ck : Dev nD × Kind3 => cellInv EX (sched snt) (K ck) (kcell ck))
    (bigSep_elim (Finset.mem_univ ck))
  iintro ⟨H, -⟩; iexact H
omit [FloatOps F] in
theorem reached_at (ck : Dev nD × Kind3) : records snt K ⊢ reached EX (kcell ck) 0 := by
  unfold records
  refine BIBase.Entails.trans (?_ : _ ⊢ bigSep Finset.univ fun ck : Dev nD × Kind3 => reached EX (kcell ck) 0)
    (bigSep_elim (Finset.mem_univ ck))
  iintro ⟨-, H⟩; iexact H

/-! ## The four rules -/

/-- A signal to the barrier of the device slot `k` goes to: it hands over the landing slot that device will fill. -/
theorem wp_ready (c n : Dev nD) (k : Fin 3) (hn : n = tgt k c) {n' : Int} (hn' : ((1 : ℕ) : Int) = n') (O : CellTallies nD τ sig Unit) (W : Waits sig Unit)
    (f : Buf (Elt F) ((commM.access (slotR (back k))).loc (c : Thread nD τ)))
    {α : Type} {Kt : α → sProp 𝕄} {kt : PUnit → Prog (TpuEff nD τ sig (Elt F) Λ₀ .tc) α} :
    iprop(records snt K ∗ owes (c : Thread nD τ) (O + barDue k c) W ∗ dutyTok EX (barCell (tgt k c)) 0 (back k)
        ∗ slotPts commM (back k) c f)
      ⊢ iprop((owes (c : Thread nD τ) O W -∗ wp frame (wpE (defs₀ (F := F)) 𝒱₀ (c : Thread nD τ) none) Set.univ (kt ⟨⟩) Kt)
          -∗ wp frame (wpE (defs₀ (F := F)) 𝒱₀ (c : Thread nD τ) none) Set.univ
              (.op (.semSignal (n : Thread nD τ) barS n') kt) Kt) := by
  subst hn hn'
  refine BIBase.Entails.trans ?_ (Rounds.wp_signal (D := Fin 3) 𝒱₀ EX (sched snt) (c : Thread nD τ) none (dst := (tgt k c : Thread nD τ)) (κ := K (tgt k c, .bar))
    (r := 0) (d := back k) (by rw [duties_bar]; exact Finset.mem_univ _) (amount_bar snt (tgt k c) (back k)) () O rfl (W := W))
  iintro ⟨#H, HO, Ht, Hs⟩
  isplitr; · iapply (inv_at snt K (tgt k c, .bar)); iexact H
  isplitl [HO]; · iexact HO
  isplitl [Ht]; · iexact Ht
  isplitl [Hs]
  · rw [payload_bar]; unfold barPay; rw [tgt_back]
    iexists f; iexact Hs
  · iapply (reached_at snt K (tgt k c, .bar)); iexact H

/-- The transfer of slot `k`: what the slot holds is what `snt` says, and it lands as that. -/
theorem wp_depart (c n : Dev nD) (k : Fin 3) (hn : n = tgt k c) (O : CellTallies nD τ sig Unit) (W : Waits sig Unit)
    {hsc : (slotM commM k : Memref sig (Dev.tc n : Thread nD τ).2.kind .vmem S128x512 .bf16).view.ref.isScScratch = false}
    {hsrc : (slotM sendM k).view.WordExact} {hdst : (slotM commM k).view.WordExact}
    {hsem : DmaTarget.Typed .vmem (.dma (recvS k)) (.remote (Dev.tc n : Thread nD τ) (slotM commM k) (.dma (sendS k)) hsc)}
    (fs : sendM.view.ty.Contents (Elt F)) (hfs : slotVal sendM k fs = snt c k)
    {α : Type} {Kt : α → sProp 𝕄} {kt : PUnit → Prog (TpuEff nD τ sig (Elt F) Λ₀ .tc) α} :
    iprop(records snt K ∗ slotPts sendM k c fs ∗ barPay c k ∗ owes (c : Thread nD τ) (O + recvDue k c) W
        ∗ dutyTok EX (sendCell k c) 0 k ∗ dutyTok EX (recvCell k (tgt k c)) 0 k)
      ⊢ iprop(((cred (tallyAt (sendCell k c) () N) ∗ owes (c : Thread nD τ) O W)
            -∗ wp frame (wpE (defs₀ (F := F)) 𝒱₀ (c : Thread nD τ) none) Set.univ (kt ⟨⟩) Kt)
          -∗ wp frame (wpE (defs₀ (F := F)) 𝒱₀ (c : Thread nD τ) none) Set.univ
              (.op (.enqueueDma (slotM sendM k) (.remote (Dev.tc n : Thread nD τ) (slotM commM k) (.dma (sendS k)) hsc)
                (.dma (recvS k)) hsrc hdst hsem) kt) Kt) := by
  subst hn
  unfold barPay
  iintro ⟨#H, Hs, ⟨%fd, Hd⟩, HO, Hts, Htr⟩
  ihave Hs' := (Entails.of_eq (slotPts_squeezed sendM k c fs)) $$ Hs
  ihave Hd' := (Entails.of_eq (slotPts_squeezed commM k (tgt k c) fd)) $$ Hd
  iapply (Rounds.wp_send_pointsTo 𝒱₀ EX (sched snt) (c : Thread nD τ) none (κ₁ := K (c, .send k)) (κ₂ := K (tgt k c, .recv k))
    (r₁ := 0) (r₂ := 0) (d₁ := k) (d₂ := k) (fd := fd) (fs := fs) (c' := (tgt k c : Thread nD τ)) (src := slotM sendM k)
    (dst := (slotM commM k : Memref sig (Dev.tc (tgt k c) : Thread nD τ).2.kind .vmem S128x512 .bf16)) (q := fullShare)
    (sS := .dma (sendS k)) (sem := .dma (recvS k))
    (by rw [duties_send]; exact Finset.mem_singleton_self _) (by rw [duties_recv]; exact Finset.mem_singleton_self _)
    () () N (credit_comm k) (amount_send snt c k k) (amount_recv snt (tgt k c) k k) O rfl (W := W)
    (by rw [payload_send, ← slotPts_squeezed]; unfold sendPay; iintro H; iexists fs; iexact H)
    (by
      rw [payload_recv, ← slotPts_squeezed]; unfold recvPay; rw [src_tgt]
      iintro H; iexists _; isplitr
      · ipureintro; exact (slotVal_transfer sendM commM k fd fs).trans hfs
      · iexact H)) $$ [Hs' Hd' HO Hts Htr]
  isplitr; · iapply (inv_at snt K (c, .send k)); iexact H
  isplitr; · iapply (inv_at snt K (tgt k c, .recv k)); iexact H
  isplitl [Hs']; · iexact Hs'
  isplitl [Hd']; · iexact Hd'
  isplitl [HO]; · iexact HO
  isplitl [Hts]; · iexact Hts
  isplitr; · iapply (reached_at snt K (c, .send k)); iexact H
  isplitl [Htr]; · iexact Htr
  iapply (reached_at snt K (tgt k c, .recv k)); iexact H

/-- The wait for slot `k`'s landing: the landing slot holds what was sent to it. -/
theorem wp_landed (c : Dev nD) (k : Fin 3) (W : Waits sig Unit)
    {hs : (slotM sendM k).view.WordExact} {hd : (slotM commM k).view.WordExact}
    {α : Type} {Kt : α → sProp 𝕄} {kt : PUnit → Prog (TpuEff nD τ sig (Elt F) Λ₀ .tc) α} :
    iprop(records snt K ∗ cred (tallyAt (recvCell k c) () N) ∗ owes (c : Thread nD τ) 0 W ∗ atPos EX (recvCell k c) 0 ∅ 0)
      ⊢ iprop(((owes (c : Thread nD τ) 0 (insert (.dma (recvS k), ()) W) ∗ atPos EX (recvCell k c) (0 + 1) ∅ 0 ∗ recvPay snt c k)
            -∗ wp frame (wpE (defs₀ (F := F)) 𝒱₀ (c : Thread nD τ) none) Set.univ (kt ⟨⟩) Kt)
          -∗ wp frame (wpE (defs₀ (F := F)) 𝒱₀ (c : Thread nD τ) none) Set.univ
              (.op (.waitDma2 (recvS k) (slotM sendM k) (slotM commM k) hs hd) kt) Kt) := by
  iintro ⟨#H, Hc, HO, Ha⟩ Hk
  iapply (Rounds.wp_wait_rest_token 𝒱₀ EX (sched snt) (c : Thread nD τ) none (κ := K (c, .recv k))
    (wpE_waitDma2_eq 𝒱₀ (c : Thread nD τ) none Set.univ) (Set.mem_univ _) () (O := 0) (W := W) (R := 0) (m := 0) (T := ∅)
    (by rw [Nat.zero_add, expect_recv])) $$ [Hc HO Ha]
  · isplitr; · iapply (inv_at snt K (c, .recv k)); iexact H
    isplitl [Hc]; · rw [credit_comm]; iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iapply (Entails.of_eq (rest_recv snt c k)); iexact Hp

/-- The wait for slot `k`'s departure: the slot of the `send` buffer is back. -/
theorem wp_departed (c : Dev nD) (k : Fin 3) (W : Waits sig Unit)
    {hs : (slotM commM k).view.WordExact} {hd : (slotM sendM k).view.WordExact}
    {α : Type} {Kt : α → sProp 𝕄} {kt : PUnit → Prog (TpuEff nD τ sig (Elt F) Λ₀ .tc) α} :
    iprop(records snt K ∗ cred (tallyAt (sendCell k c) () N) ∗ owes (c : Thread nD τ) 0 W ∗ atPos EX (sendCell k c) 0 ∅ 0)
      ⊢ iprop(((owes (c : Thread nD τ) 0 (insert (.dma (sendS k), ()) W) ∗ atPos EX (sendCell k c) (0 + 1) ∅ 0 ∗ sendPay (F := F) c k)
            -∗ wp frame (wpE (defs₀ (F := F)) 𝒱₀ (c : Thread nD τ) none) Set.univ (kt ⟨⟩) Kt)
          -∗ wp frame (wpE (defs₀ (F := F)) 𝒱₀ (c : Thread nD τ) none) Set.univ
              (.op (.waitDma2 (sendS k) (slotM commM k) (slotM sendM k) hs hd) kt) Kt) := by
  iintro ⟨#H, Hc, HO, Ha⟩ Hk
  iapply (Rounds.wp_wait_rest_token 𝒱₀ EX (sched snt) (c : Thread nD τ) none (κ := K (c, .send k))
    (wpE_waitDma2_eq 𝒱₀ (c : Thread nD τ) none Set.univ) (Set.mem_univ _) () (O := 0) (W := W) (R := 0) (m := 0) (T := ∅)
    (by rw [Nat.zero_add, expect_send])) $$ [Hc HO Ha]
  · isplitr; · iapply (inv_at snt K (c, .send k)); iexact H
    isplitl [Hc]; · rw [credit_send]; iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iapply (Entails.of_eq (rest_send snt c k)); iexact Hp

/-- The wait for the three signals: the three landing slots the device is going to fill. -/
theorem wp_all_ready (c : Dev nD) (W : Waits sig Unit) {n : Int} (hn : ((3 : ℕ) : Int) = n)
    {α : Type} {Kt : α → sProp 𝕄} {kt : PUnit → Prog (TpuEff nD τ sig (Elt F) Λ₀ .tc) α} :
    iprop(records snt K ∗ levAts L lv ∗ cred (tallyAt (barCell c) () 3) ∗ owes (c : Thread nD τ) (owedSends c) W ∗ atPos EX (barCell c) 0 ∅ 0)
      ⊢ iprop(((owes (c : Thread nD τ) (owedSends c) (insert (.reg barS, ()) W) ∗ atPos EX (barCell c) (0 + 1) ∅ 0
              ∗ barPay (F := F) c 0 ∗ barPay (F := F) c 1 ∗ barPay (F := F) c 2)
            -∗ wp frame (wpE (defs₀ (F := F)) 𝒱₀ (c : Thread nD τ) none) Set.univ (kt ⟨⟩) Kt)
          -∗ wp frame (wpE (defs₀ (F := F)) 𝒱₀ (c : Thread nD τ) none) Set.univ (.op (.semWait barS n) kt) Kt) := by
  subst hn
  iintro ⟨#H, #Hl, Hc, HO, Ha⟩ Hk
  iapply (Rounds.wp_wait_rest_token 𝒱₀ EX (sched snt) (c : Thread nD τ) none (κ := K (c, .bar))
    (wpE_semWait_eq 𝒱₀ (c : Thread nD τ) none Set.univ) (Set.mem_univ _) () (O := owedSends c) (W := W) (R := 0) (m := 0) (T := ∅)
    (by rw [expect_bar])) $$ [Hc HO Ha]
  · isplitr; · iapply (inv_at snt K (c, .bar)); iexact H
    isplitl [Hc]; · iexact Hc
    isplitl [HO]; · iexact HO
    isplitr; · iapply (mayWait_bar c); iexact Hl
    iexact Ha
  iintro ⟨HO, Ha, -, Hp⟩
  iapply Hk
  isplitl [HO]; · iexact HO
  isplitl [Ha]; · iexact Ha
  iapply (Entails.of_eq (rest_bar snt c)); iexact Hp

omit [FloatOps F] in
/-- A cell whose one round is over closes: its counter, at zero, is the device's again. -/
theorem close (c : Dev nD) (k : Kind3) :
    iprop(records snt K ∗ atPos EX (kcell (c, k)) (0 + 1) ∅ 0) ⊢ |={Set.univ}=> (semVal (kcell (c, k)) 0 : sProp 𝕄) := by
  iintro ⟨#H, Ha⟩
  imod (Rounds.cell_close EX (sched snt) (Set.mem_univ (K (c, k))) (fun h => h) (R := 0 + 1) (duties_later snt (kcell (c, k)))) $$ [Ha] with Hz
  · isplitr; · iapply (inv_at snt K (c, k)); iexact H
    iexact Ha
  imodintro; iexact Hz

/-- A load of slot `k` of a scratch buffer reads what the slot holds. -/
theorem wp_get (M : Memref sig .tc .vmem S3x128x512 .bf16) (c : Dev nD) (k : Fin 3) (f)
    {α : Type} {Kt : α → sProp 𝕄} {hl : M.view.LoadsAt (slotR k).toLoadRect} {kt : (S1x128x512.Idx → Elt F .bf16) → Prog (TpuEff nD τ sig (Elt F) Λ₀ .tc) α} :
    slotPts M k c f
      ⊢ iprop((slotPts M k c f -∗ wp frame (wpE (defs₀ (F := F)) 𝒱₀ (c : Thread nD τ) none) Set.univ (kt (slotVal M k f)) Kt)
          -∗ wp frame (wpE (defs₀ (F := F)) 𝒱₀ (c : Thread nD τ) none) Set.univ (.op (.load M (slotR k).toLoadRect hl) kt) Kt) := by
  unfold slotPts
  exact wp_load_rect 𝒱₀ (c : Thread nD τ) none Set.univ (m := M) (r := slotR k) (Finset.Subset.refl _)

/-- A store to slot `k` of a scratch buffer leaves the stored block there. -/
theorem wp_put (M : Memref sig .tc .vmem S3x128x512 .bf16) (c : Dev nD) (k : Fin 3) (f) (w : S1x128x512.Idx → Elt F .bf16)
    {α : Type} {Kt : α → sProp 𝕄} {hx : (M.access (slotR k)).Stores Finset.univ}
    {hm : (Finset.univ : Finset (slotR k).shape.Idx) = Finset.univ ∨ ∀ a, (slotR k).stride a = 1} {kt : PUnit → Prog (TpuEff nD τ sig (Elt F) Λ₀ .tc) α} :
    slotPts M k c f
      ⊢ iprop(((∃ g, ⌜slotVal M k g = w⌝ ∗ slotPts M k c g) -∗ wp frame (wpE (defs₀ (F := F)) 𝒱₀ (c : Thread nD τ) none) Set.univ (kt ⟨⟩) Kt)
          -∗ wp frame (wpE (defs₀ (F := F)) 𝒱₀ (c : Thread nD τ) none) Set.univ (.op (.store M (slotR k) w Finset.univ hx hm) kt) Kt) := by
  unfold slotPts
  iintro Hs Hk
  iapply (wp_store 𝒱₀ (c : Thread nD τ) none Set.univ (m := M) (r := slotR k) (Mk := Finset.univ) (by rw [View.setOn_univ])) $$ Hs
  iintro Hs
  iapply Hk
  iexists _
  isplitr
  · ipureintro; exact View.read_write_univ (v := M.access (slotR k)) f w
  · iexact Hs

/-- The staging buffers a block is computed from, whole. -/
def staged (c : Dev nD) (X : (cc0_stg0_0 : Ref sig .tc).ty.Contents (Elt F)) (I : (cc0_stg2_0 : Ref sig .tc).ty.Contents (Elt F))
    (W : (cc0_stg3_0 : Ref sig .tc).ty.Contents (Elt F)) : sProp 𝕄 :=
  iprop((((c : Thread nD τ).loc cc0_stg0_0) ↦{fullShare} X) ∗ (((c : Thread nD τ).loc cc0_stg2_0) ↦{fullShare} I) ∗ (((c : Thread nD τ).loc cc0_stg3_0) ↦{fullShare} W))

/-- The seven loads each block is computed from. -/
theorem wp_loads (c : Dev nD) (X : (cc0_stg0_0 : Ref sig .tc).ty.Contents (Elt F)) (I : (cc0_stg2_0 : Ref sig .tc).ty.Contents (Elt F))
    (W : (cc0_stg3_0 : Ref sig .tc).ty.Contents (Elt F)) {α : Type} {Kt : α → sProp 𝕄}
    {ox : Fin 2 → ℕ} {hx : ∀ a, ox a + S128x256.size a ≤ S512x256.size a} {oi : Fin 2 → ℕ} {hi : ∀ a, oi a + S128x1.size a ≤ S512x2.size a}
    {oj : Fin 2 → ℕ} {hj : ∀ a, oj a + S128x1.size a ≤ S512x2.size a}
    {lx : xM.view.LoadsAt (Rect.unit (s := S512x256) ox S128x256.size hx).toLoadRect}
    {li : iM.view.LoadsAt (Rect.unit (s := S512x2) oi S128x1.size hi).toLoadRect} {lj : iM.view.LoadsAt (Rect.unit (s := S512x2) oj S128x1.size hj).toLoadRect}
    {l0 : wM.view.LoadsAt (Rect.unit (s := S4x256x512) ![0, 0, 0] S1x256x512.size inb_S4x256x512_S1x256x512_0_0_0).toLoadRect}
    {l1 : wM.view.LoadsAt (Rect.unit (s := S4x256x512) ![1, 0, 0] S1x256x512.size inb_S4x256x512_S1x256x512_1_0_0).toLoadRect}
    {l2 : wM.view.LoadsAt (Rect.unit (s := S4x256x512) ![2, 0, 0] S1x256x512.size inb_S4x256x512_S1x256x512_2_0_0).toLoadRect}
    {l3 : wM.view.LoadsAt (Rect.unit (s := S4x256x512) ![3, 0, 0] S1x256x512.size inb_S4x256x512_S1x256x512_3_0_0).toLoadRect}
    {kt : Vec F S128x256 .f32 → Vec F S128x1 .i32 → Vec F S128x1 .i32 → Vec F S1x256x512 .f32 → Vec F S1x256x512 .f32 → Vec F S1x256x512 .f32
      → Vec F S1x256x512 .f32 → Prog (TpuEff nD τ sig (Elt F) Λ₀ .tc) α} :
    staged c X I W
      ⊢ iprop((staged c X I W -∗ wp frame (wpE (defs₀ (F := F)) 𝒱₀ (c : Thread nD τ) none) Set.univ
            (kt (ldX X ox hx) (ldI I oi hi) (ldI I oj hj) (ldW W ![0, 0, 0] inb_S4x256x512_S1x256x512_0_0_0) (ldW W ![1, 0, 0] inb_S4x256x512_S1x256x512_1_0_0)
              (ldW W ![2, 0, 0] inb_S4x256x512_S1x256x512_2_0_0) (ldW W ![3, 0, 0] inb_S4x256x512_S1x256x512_3_0_0)) Kt)
          -∗ wp frame (wpE (defs₀ (F := F)) 𝒱₀ (c : Thread nD τ) none) Set.univ
              (.op (.load xM (Rect.unit (s := S512x256) ox S128x256.size hx).toLoadRect lx) fun x =>
                .op (.load iM (Rect.unit (s := S512x2) oi S128x1.size hi).toLoadRect li) fun i =>
                .op (.load iM (Rect.unit (s := S512x2) oj S128x1.size hj).toLoadRect lj) fun j =>
                .op (.load wM (Rect.unit (s := S4x256x512) ![0, 0, 0] S1x256x512.size inb_S4x256x512_S1x256x512_0_0_0).toLoadRect l0) fun w0 =>
                .op (.load wM (Rect.unit (s := S4x256x512) ![1, 0, 0] S1x256x512.size inb_S4x256x512_S1x256x512_1_0_0).toLoadRect l1) fun w1 =>
                .op (.load wM (Rect.unit (s := S4x256x512) ![2, 0, 0] S1x256x512.size inb_S4x256x512_S1x256x512_2_0_0).toLoadRect l2) fun w2 =>
                .op (.load wM (Rect.unit (s := S4x256x512) ![3, 0, 0] S1x256x512.size inb_S4x256x512_S1x256x512_3_0_0).toLoadRect l3) fun w3 =>
                kt x i j w0 w1 w2 w3) Kt) := by
  unfold staged
  iintro ⟨Hx, Hi, Hw⟩ Hk
  iapply (wp_load 𝒱₀ (c : Thread nD τ) none Set.univ (m := xM) (Finset.subset_univ _)) $$ Hx; iintro Hx
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply Hk
  isplitl [Hx]; · iexact Hx
  isplitl [Hi]; · iexact Hi
  iexact Hw

end Run

end Cert.Exchange

end
-- ==== Proof.Run.lean ====
/-
# One device's run of the kernel body

The kernel body run once, at a symbolic device `c`, one rule per effect in program order.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

/-- The duties device `c` pays: per slot, the signal to its target, the landing there, and its own departure. -/
def payToks (c : Dev nD) : sProp 𝕄 :=
  iprop((dutyTok EX (barCell (tgt 0 c)) 0 (back 0) ∗ dutyTok EX (barCell (tgt 1 c)) 0 (back 1) ∗ dutyTok EX (barCell (tgt 2 c)) 0 (back 2))
    ∗ (dutyTok EX (recvCell 0 (tgt 0 c)) 0 0 ∗ dutyTok EX (recvCell 1 (tgt 1 c)) 0 1 ∗ dutyTok EX (recvCell 2 (tgt 2 c)) 0 2)
    ∗ (dutyTok EX (sendCell 0 c) 0 0 ∗ dutyTok EX (sendCell 1 c) 0 1 ∗ dutyTok EX (sendCell 2 c) 0 2))

/-- What of the exchange's ghost state belongs to device `c` alone: its positions and the duties it pays. -/
def linear (c : Dev nD) : sProp 𝕄 :=
  iprop((bigSep Finset.univ fun k : Kind3 => atPos EX (kcell (c, k)) 0 ∅ 0) ∗ payToks c)

/-- The credit for what others owe device `c`: three signals and three landings. -/
def credits (c : Dev nD) : sProp 𝕄 :=
  iprop(cred (tallyAt (barCell c) () 3) ∗ cred (tallyAt (recvCell 0 c) () N) ∗ cred (tallyAt (recvCell 1 c) () N) ∗ cred (tallyAt (recvCell 2 c) () N))

def start (c : Dev nD) : sProp 𝕄 :=
  iprop((∃ K, records (snt m) K ∗ linear c) ∗ credits c ∗ levAts L lv)

/-- The two scratch buffers, at whatever they hold. -/
def scratches (c : Dev nD) : sProp 𝕄 :=
  iprop((∃ f, sendM.view.loc (c : Thread nD τ) ↦[sendM.view.set]{fullShare} f) ∗ (∃ f, commM.view.loc (c : Thread nD τ) ↦[commM.view.set]{fullShare} f))

def Φ₀ (c : Dev nD) : sProp 𝕄 := iprop(start m c ∗ scratches c)
/-- After the body: the scratch buffers, and every cell of the exchange closed with its counter at zero. -/
def Φ₁ (c : Dev nD) : sProp 𝕄 := iprop(scratches c ∗ bigSep Finset.univ fun k : Kind3 => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => stX m c
    | ⟨1, _⟩ => stR m c
    | ⟨2, _⟩ => stI m c
    | ⟨3, _⟩ => stW m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Kind3 → ℕ) (c : Dev nD) : sProp 𝕄 :=
  iprop(((records (snt m) K ∗ linear c) ∗ credits c ∗ levAts L lv ∗ scratches c)
    ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ c ∗ (dats m 0 c).owesAt () t0_0.succ ∗ stg c cc0_stg0_0 (stX m c) ∗ stg c cc0_stg1_0 (stR m c)
    ∗ stg c cc0_stg2_0 (stI m c) ∗ stg c cc0_stg3_0 (stW m c) ∗ stg c cc0_stg4_0 (outAt m c))

omit [FloatOps F] in
theorem hz2 : (![0, 0] : Fin 2 → Nat) = fun _ => 0 := funext fun a => by fin_cases a <;> rfl
omit [FloatOps F] in
theorem write_out (f w : (cc0_stg4_0 : Ref sig .tc).ty.Contents (Elt F)) :
    (oM.access (Rect.unit (s := S128x512) ![0, 0] S128x512.size inb_S128x512_S128x512_0_0) : View sig .tc _ _ _).write (Elt F) f w Finset.univ = w :=
  Memref.write_access_unit_zero_univ (Elt F) cc0_stg4_0 hz2 _ f w

set_option maxHeartbeats 4000000 in
/-- The body, run from `bodyPre`, ends in `bodyPost`. -/
theorem sound_body (K : Dev nD × Kind3 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part16_eq_skeleton]; unfold k0_part16_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel
  simp only [semSignalWord, semWaitWord, Prog.lift, Prog.bind_op, Prog.bind_ret, Prog.pure_eq_ret, wp_deviceId]
  unfold bodyPre linear payToks credits scratches
  rw [bigSep_kinds]
  iintro ⟨⟨⟨⟨#H, ⟨HaB, HaS0, HaS1, HaS2, HaR0, HaR1, HaR2⟩, ⟨HtB0, HtB1, HtB2⟩, ⟨HtR0, HtR1, HtR2⟩, HtS0, HtS1, HtS2⟩, ⟨HcB, HcR0, HcR1, HcR2⟩, #Hlev, ⟨%fs, Hsend⟩, ⟨%fc, Hcomm⟩⟩,
    Ho, ⟨%d0, %g0, %hg0, Hx⟩, ⟨%d1, %g1, %hg1, Hr⟩, ⟨%d2, %g2, %hg2, Hi⟩, ⟨%d3, %g3, %hg3, Hw⟩, ⟨%d4, %g4, %hg4, Hout⟩⟩, Hk⟩
  have hx : g0 = stX m c := by rw [hg0]; unfold Dat.before; rw [if_pos (fetch0_0 t0_0)]; rfl
  have hr : g1 = stR m c := by rw [hg1]; unfold Dat.before; rw [if_pos (fetch0_1 t0_0)]; rfl
  have hi : g2 = stI m c := by rw [hg2]; unfold Dat.before; rw [if_pos (fetch0_2 t0_0)]; rfl
  have hw : g3 = stW m c := by rw [hg3]; unfold Dat.before; rw [if_pos (fetch0_3 t0_0)]; rfl
  subst hx hr hi hw
  unfold Dat.owesAt Pipeline.owesWithin
  icases Ho with ⟨%W, %hW, HO⟩
  rw [show (dats m 0 c).owed t0_0.castSucc = O₀ c from rfl]
  unfold O₀
  -- the three signals, each handing over a landing slot
  ihave Hc := (Entails.of_eq (slots_split commM c fc)) $$ Hcomm
  icases Hc with ⟨Hc0, Hc1, Hc2⟩
  iapply (wp_ready (snt m) K c _ 0 (dev1_eq c) (by decide) _ W fc) $$ [HO HtB0 Hc0]
  · isplitr; · iexact H
    isplitl [HO]; · iexact HO
    isplitl [HtB0]; · iexact HtB0
    iexact Hc0
  iintro HO
  iapply (wp_ready (snt m) K c _ 1 (dev2_eq c) (by decide) _ W fc) $$ [HO HtB1 Hc2]
  · isplitr; · iexact H
    isplitl [HO]; · iexact HO
    isplitl [HtB1]; · iexact HtB1
    iexact Hc2
  iintro HO
  iapply (wp_ready (snt m) K c _ 2 (dev3_eq c) (by decide) _ W fc) $$ [HO HtB2 Hc1]
  · isplitr; · iexact H
    isplitl [HO]; · iexact HO
    isplitl [HtB2]; · iexact HtB2
    iexact Hc1
  iintro HO
  -- the wait for the three others' signals
  iapply (wp_all_ready (snt m) K c W (by decide)) $$ [HcB HO HaB]
  · isplitr; · iexact H
    isplitr; · iexact Hlev
    isplitl [HcB]; · iexact HcB
    isplitl [HO]; · iexact HO
    iexact HaB
  iintro ⟨HO, HaB, Hb0, Hb1, Hb2⟩
  unfold owedSends
  ihave Hs := (Entails.of_eq (slots_split sendM c fs)) $$ Hsend
  icases Hs with ⟨Hs0, Hs1, Hs2⟩
  ihave Hst := (show iprop((((c : Thread nD τ).loc cc0_stg0_0) ↦{fullShare} stX m c) ∗ (((c : Thread nD τ).loc cc0_stg2_0) ↦{fullShare} stI m c)
    ∗ (((c : Thread nD τ).loc cc0_stg3_0) ↦{fullShare} stW m c)) ⊢ (staged c (stX m c) (stI m c) (stW m c) : sProp 𝕄) from .rfl) $$ [Hx Hi Hw]
  · isplitl [Hx]; · iexact Hx
    isplitl [Hi]; · iexact Hi
    iexact Hw
  iapply (wp_load 𝒱₀ (c : Thread nD τ) none Set.univ (m := rM) (Finset.subset_univ _)) $$ Hr; iintro Hr
  -- slot 0: compute, store, send
  iapply (wp_loads c (stX m c) (stI m c) (stW m c)) $$ Hst; iintro Hst
  iapply (wp_get sendM c 0 fs) $$ Hs0; iintro Hs0
  iapply (wp_put sendM c 0 fs (snt m c 0)) $$ Hs0; iintro ⟨%e0, %he0, Hs0⟩
  iapply (wp_depart (snt m) K c _ 0 (dev4_eq c) _ _ e0 he0) $$ [Hs0 Hb0 HO HtS0 HtR0]
  · isplitr; · iexact H
    isplitl [Hs0]; · iexact Hs0
    isplitl [Hb0]; · iexact Hb0
    isplitl [HO]; · iexact HO
    isplitl [HtS0]; · iexact HtS0
    iexact HtR0
  iintro ⟨HcS0, HO⟩
  -- slot 1: compute, store, send
  iapply (wp_loads c (stX m c) (stI m c) (stW m c)) $$ Hst; iintro Hst
  iapply (wp_get sendM c 1 fs) $$ Hs1; iintro Hs1
  iapply (wp_put sendM c 1 fs (snt m c 1)) $$ Hs1; iintro ⟨%e1, %he1, Hs1⟩
  iapply (wp_depart (snt m) K c _ 1 (dev5_eq c) _ _ e1 he1) $$ [Hs1 Hb1 HO HtS1 HtR1]
  · isplitr; · iexact H
    isplitl [Hs1]; · iexact Hs1
    isplitl [Hb1]; · iexact Hb1
    isplitl [HO]; · iexact HO
    isplitl [HtS1]; · iexact HtS1
    iexact HtR1
  iintro ⟨HcS1, HO⟩
  -- slot 2: compute, store, send
  iapply (wp_loads c (stX m c) (stI m c) (stW m c)) $$ Hst; iintro Hst
  iapply (wp_get sendM c 2 fs) $$ Hs2; iintro Hs2
  iapply (wp_put sendM c 2 fs (snt m c 2)) $$ Hs2; iintro ⟨%e2, %he2, Hs2⟩
  iapply (wp_depart (snt m) K c _ 2 (dev6_eq c) _ _ e2 he2) $$ [Hs2 Hb2 HO HtS2 HtR2]
  · isplitr; · iexact H
    isplitl [Hs2]; · iexact Hs2
    isplitl [Hb2]; · iexact Hb2
    isplitl [HO]; · iexact HO
    isplitl [HtS2]; · iexact HtS2
    iexact HtR2
  iintro ⟨HcS2, HO⟩
  -- the block it keeps
  iapply (wp_loads c (stX m c) (stI m c) (stW m c)) $$ Hst; iintro Hst
  -- the three landings
  iapply (wp_landed (snt m) K c 0 _) $$ [HcR0 HO HaR0]
  · isplitr; · iexact H
    isplitl [HcR0]; · iexact HcR0
    isplitl [HO]; · iexact HO
    iexact HaR0
  unfold recvPay; iintro ⟨HO, HaR0, %l0, %hl0, Hl0⟩
  iapply (wp_landed (snt m) K c 1 _) $$ [HcR1 HO HaR1]
  · isplitr; · iexact H
    isplitl [HcR1]; · iexact HcR1
    isplitl [HO]; · iexact HO
    iexact HaR1
  unfold recvPay; iintro ⟨HO, HaR1, %l1, %hl1, Hl1⟩
  iapply (wp_landed (snt m) K c 2 _) $$ [HcR2 HO HaR2]
  · isplitr; · iexact H
    isplitl [HcR2]; · iexact HcR2
    isplitl [HO]; · iexact HO
    iexact HaR2
  unfold recvPay; iintro ⟨HO, HaR2, %l2, %hl2, Hl2⟩
  iapply (wp_get commM c 0 l0) $$ Hl0; iintro Hl0; rw [hl0]
  iapply (wp_get commM c 1 l1) $$ Hl1; iintro Hl1; rw [hl1]
  iapply (wp_get commM c 2 l2) $$ Hl2; iintro Hl2; rw [hl2]
  iapply (wp_load 𝒱₀ (c : Thread nD τ) none Set.univ (m := oM) (Finset.subset_univ _)) $$ Hout; iintro Hout
  iapply (wp_store 𝒱₀ (c : Thread nD τ) none Set.univ (m := oM)
    (r := Rect.unit (s := S128x512) ![0, 0] S128x512.size inb_S128x512_S128x512_0_0) (Mk := Finset.univ) (Finset.subset_univ _)) $$ Hout; iintro Hout
  rw [write_out]
  -- the three departures
  iapply (wp_departed (snt m) K c 0 _) $$ [HcS0 HO HaS0]
  · isplitr; · iexact H
    isplitl [HcS0]; · iexact HcS0
    isplitl [HO]; · iexact HO
    iexact HaS0
  unfold sendPay; iintro ⟨HO, HaS0, %b0, Hs0⟩
  iapply (wp_departed (snt m) K c 1 _) $$ [HcS1 HO HaS1]
  · isplitr; · iexact H
    isplitl [HcS1]; · iexact HcS1
    isplitl [HO]; · iexact HO
    iexact HaS1
  unfold sendPay; iintro ⟨HO, HaS1, %b1, Hs1⟩
  iapply (wp_departed (snt m) K c 2 _) $$ [HcS2 HO HaS2]
  · isplitr; · iexact H
    isplitl [HcS2]; · iexact HcS2
    isplitl [HO]; · iexact HO
    iexact HaS2
  unfold sendPay; iintro ⟨HO, HaS2, %b2, Hs2⟩
  -- every cell closes
  imod (close (snt m) K c .bar) $$ [HaB] with HzB
  · isplitr; · iexact H
    iexact HaB
  imod (close (snt m) K c (.send 0)) $$ [HaS0] with HzS0
  · isplitr; · iexact H
    iexact HaS0
  imod (close (snt m) K c (.send 1)) $$ [HaS1] with HzS1
  · isplitr; · iexact H
    iexact HaS1
  imod (close (snt m) K c (.send 2)) $$ [HaS2] with HzS2
  · isplitr; · iexact H
    iexact HaS2
  imod (close (snt m) K c (.recv 0)) $$ [HaR0] with HzR0
  · isplitr; · iexact H
    iexact HaR0
  imod (close (snt m) K c (.recv 1)) $$ [HaR1] with HzR1
  · isplitr; · iexact H
    iexact HaR1
  imod (close (snt m) K c (.recv 2)) $$ [HaR2] with HzR2
  · isplitr; · iexact H
    iexact HaR2
  rw [wp_ret]; imodintro
  iapply Hk
  unfold bodyPost Φ₁ scratches Dat.owesAt Pipeline.owesWithin staged
  rw [show (dats m 0 c).owed t0_0.succ = 0 from rfl, bigSep_kinds]
  icases Hst with ⟨Hx, Hi, Hw⟩
  isplitl [Hs0 Hs1 Hs2 Hl0 Hl1 Hl2 HzB HzS0 HzS1 HzS2 HzR0 HzR1 HzR2]
  · isplitl [Hs0 Hs1 Hs2 Hl0 Hl1 Hl2]
    · isplitl [Hs0 Hs1 Hs2]
      · iapply (slots_join sendM c _ _ _)
        isplitl [Hs0]; · iexact Hs0
        isplitl [Hs1]; · iexact Hs1
        iexact Hs2
      · iapply (slots_join commM c _ _ _)
        isplitl [Hl0]; · iexact Hl0
        isplitl [Hl1]; · iexact Hl1
        iexact Hl2
    isplitl [HzB]; · iexact HzB
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists _
    isplitr
    rotate_left
    · iexact HO
    · ipureintro; exact fun _ _ => Or.inl trivial
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [Hw]
  · iexists _; isplitr; · (ipureintro; rfl)
    iexact Hw
  iexists _; isplitr; · (ipureintro; rfl)
  iexact Hout

set_option maxRecDepth 4000 in
def bodyPre' (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

omit [FloatOps F] in
theorem bigSep_windows (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

set_option maxRecDepth 4000 in
/-- The one grid point's obligation, as the launch asks for it. -/
theorem body_obligation (c : Dev nD) : BodyObligation (dats (F := F) m 0 c) (defs₀ (F := F)) 𝒱₀ () Set.univ := fun t => by
  rw [show t = t0_0 from fin_N0 t]
  rw [bigSep_windows, bigSep_windows]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _)
      (Memref.whole cc0_scratch0) (Memref.isWhole_whole _) (Memref.whole cc0_scratch1) (Memref.isWhole_whole _) cc0_scratch2 cc0_scratch3)
    (fun _ => bodyPost m c)
  unfold bodyPre' Φ₀ start
  iintro ⟨⟨⟨⟨%K, Hg⟩, Hc, Hl⟩, Hscr⟩, Hrest⟩
  iapply (sound_body m K c fun _ => bodyPost m c)
  unfold bodyPre
  isplitr []
  · isplitl [Hg Hc Hl Hscr]
    · isplitl [Hg]; · iexact Hg
      isplitl [Hc]; · iexact Hc
      isplitl [Hl]; · iexact Hl
      iexact Hscr
    iexact Hrest
  · iintro H; iexact H

end Cert.Exchange

end
-- ==== Proof.Launch.lean ====
/-
# The launch

From one device's run to the whole program's: the cells of the exchange are allocated for all devices at once, each
device gets the positions of its own cells and the duties it pays, and every device ends with its output block stored
and every counter at zero.
-/
module

public import proofs.«01_k».proof.Proof.Run
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and duties, as minted -/

/-- The kernel's own semaphores: three send, three receive. -/
abbrev osem : Bool × Fin 3 → SemLoc sig | (false, k) => .dma (sendS k) | (true, k) => .dma (recvS k)

theorem ownSemFacts : Pipeline.OwnSemFacts cfg0.spec osem := by decide

theorem share_eq (c : Dev nD) (w : Fin cfg0.W) : (dats m 0 c).share w = fullShare := by unfold Dat.share; split <;> rfl

theorem semOf_injective : Function.Injective semOf := fun k k' h => by
  have := (kindOf_semOf k).symm.trans ((congrArg kindOf h).trans (kindOf_semOf k'))
  exact Option.some.inj this

theorem kcell_injective : Function.Injective (kcell : Dev nD × Kind3 → GSem nD τ sig) := by
  rintro ⟨c, k⟩ ⟨c', k'⟩ h
  have h1 : c = c' := congrArg (fun g : GSem nD τ sig => g.1.1) h
  have h2 : k = k' := semOf_injective (congrArg Prod.snd h)
  rw [h1, h2]
def xCells : Finset (GSem nD τ sig) := Finset.univ.map ⟨kcell, kcell_injective⟩

/-- The duties of a device's own cells: those of its barrier (named by the slot that answers), of its send cells, of its
    receive cells. -/
abbrev tokOf (x : Dev nD × Fin 3 × Fin 3) : GSem nD τ sig × ℕ × Fin 3 := match x.2.1 with
  | 0 => (kcell (x.1, .bar), 0, back x.2.2) | 1 => (kcell (x.1, .recv x.2.2), 0, x.2.2) | 2 => (kcell (x.1, .send x.2.2), 0, x.2.2)
theorem tokOf_injective : Function.Injective tokOf := by
  rintro ⟨c, j, k⟩ ⟨c', j', k'⟩ h
  have hg : (tokOf (c, j, k)).1 = (tokOf (c', j', k')).1 := congrArg Prod.fst h
  have hd : (tokOf (c, j, k)).2.2 = (tokOf (c', j', k')).2.2 := congrArg (fun x => x.2.2) h
  have h1 : c = c' := by
    have := congrArg (fun g : GSem nD τ sig => g.1.1) hg
    fin_cases j <;> fin_cases j' <;> exact this
  subst h1
  have hs := congrArg (fun g : GSem nD τ sig => kindOf g.2) hg
  have hjk : j = j' ∧ k = k' := by
    clear h hg
    revert hs hd
    revert j j' k k'
    fin_cases c <;> decide +kernel
  rw [hjk.1, hjk.2]
def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- The duties of device `c`'s own cells. -/
def toks (c : Dev nD) : sProp 𝕄 :=
  iprop((dutyTok EX (barCell c) 0 (back 0) ∗ dutyTok EX (barCell c) 0 (back 1) ∗ dutyTok EX (barCell c) 0 (back 2))
    ∗ (dutyTok EX (recvCell 0 c) 0 0 ∗ dutyTok EX (recvCell 1 c) 0 1 ∗ dutyTok EX (recvCell 2 c) 0 2)
    ∗ (dutyTok EX (sendCell 0 c) 0 0 ∗ dutyTok EX (sendCell 1 c) 0 1 ∗ dutyTok EX (sendCell 2 c) 0 2))

/-- What the launch deals device `c`: the state of its cells, its positions, its own cells' duties. -/
def G (c : Dev nD) : sProp 𝕄 :=
  iprop((bigSep Finset.univ fun k : Kind3 => roundState EX (sched (snt m)) (kcell (c, k)) 0)
    ∗ (bigSep Finset.univ fun k : Kind3 => iprop(atPos EX (kcell (c, k)) 0 ∅ 0 ∗ reached EX (kcell (c, k)) 0)) ∗ toks c)

/-- What it starts from once the cells are allocated. -/
def G' (c : Dev nD) : sProp 𝕄 := iprop(∃ K, records (snt m) K ∗ linear c)

theorem deal : BI.own (EX (initOf xCells xToks)) ⊢ (|==> bigSep Finset.univ (G m) : sProp 𝕄) := by
  have hX (Φ : GSem nD τ sig → sProp 𝕄) : bigSep xCells Φ = bigSep Finset.univ fun c : Dev nD => bigSep Finset.univ fun k : Kind3 => Φ (kcell (c, k)) := by
    unfold xCells; rw [bigSep_map, bigSep_univ_prod]; rfl
  have hT : bigSep xToks (fun x => (dutyTok EX x.1 x.2.1 x.2.2 : sProp 𝕄)) = bigSep Finset.univ fun c : Dev nD => toks c := by
    unfold xToks; rw [bigSep_map, bigSep_univ_prod]
    refine bigSep_congr fun c _ => ?_
    rw [bigSep_univ_prod, bigSep_slots, bigSep_slots, bigSep_slots, bigSep_slots]; rfl
  iintro HX
  imod (Rounds.fund EX (sched (snt m)) xCells xToks) $$ HX with ⟨Hst, Hr, Hat, Htok⟩
  imodintro
  ihave Hst' := (Entails.of_eq (hX fun g => roundState EX (sched (snt m)) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell (c, .send 0)) 0 ∗ semVal (kcell (c, .send 1)) 0 ∗ semVal (kcell (c, .send 2)) 0
        ∗ semVal (kcell (c, .recv 0)) 0 ∗ semVal (kcell (c, .recv 1)) 0 ∗ semVal (kcell (c, .recv 2)) 0) := by
  rw [Pipeline.ownSems0_eq_of_list c osem [(false, 0), (false, 1), (false, 2), (true, 0), (true, 1), (true, 2)] (by decide) (by decide)]; rfl
omit [FloatOps F] in
/-- The runtime's barrier semaphore is the launch's one semaphore that is not the kernel's own. -/
theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl

omit [FloatOps F] in
/-- All seven counters of a device at zero are the launch's own ones and the barrier's. -/
theorem counters_eq (c : Dev nD) :
    (bigSep Finset.univ fun k : Kind3 => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_kinds, ownSems0_eq, unscopedSems0_eq]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched (snt m)) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (Entails.of_eq (counters_eq (F := F) c).symm) $$ [Hos Hus]
  · isplitl [Hus] <;> iassumption
  imod (show iprop((bigSep Finset.univ fun k : Kind3 => semVal (kcell (c, k)) 0) ∗ bigSep Finset.univ fun k : Kind3 => roundState EX (sched (snt m)) (kcell (c, k)) 0)
      ⊢ (|={Set.univ}=> bigSep Finset.univ fun k => iprop(∃ κ : ℕ, cellInv EX (sched (snt m)) κ (kcell (c, k))) : sProp 𝕄) from by
        rw [← bigSep_sep']
        exact (bigSep_mono fun k _ => (Rounds.body_intro EX (sched (snt m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The duties dealt to those who pay them: each slot's signal and landing one `travel` back. -/
theorem toks_around : (bigSep Finset.univ fun c : Dev nD => (toks c : sProp 𝕄)) ⊢ bigSep Finset.univ fun c : Dev nD => payToks c := by
  unfold toks payToks
  simp only [bigSep_sep']
  have hb (k : Fin 3) := bigSep_univ_equiv (travel k) (fun c : Dev nD => (dutyTok EX (barCell c) 0 (back k) : sProp 𝕄))
  have hr (k : Fin 3) := bigSep_univ_equiv (travel k) (fun c : Dev nD => (dutyTok EX (recvCell k c) 0 k : sProp 𝕄))
  rw [hb 0, hb 1, hb 2, hr 0, hr 1, hr 2]
  exact BI.Entails.refl _

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (sched (snt m)) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Kind3 => iprop(∃ κ : ℕ, cellInv EX (sched (snt m)) κ (kcell ck))),
    bigSep_congr (s := Finset.univ) (fun (c : Dev nD) _ => bigSep_sep' Finset.univ (fun k : Kind3 => (atPos EX (kcell (c, k)) 0 ∅ 0 : sProp 𝕄)) (fun k => reached EX (kcell (c, k)) 0)),
    bigSep_sep', ← bigSep_univ_prod (fun ck : Dev nD × Kind3 => (reached EX (kcell ck) 0 : sProp 𝕄))]
  iintro ⟨HI, ⟨Hat, #HR⟩, Htok⟩
  ihave HK := (BI.bigSep_exists_pi Finset.univ (fun (ck : Dev nD × Kind3) (κ : ℕ) => (cellInv EX (sched (snt m)) κ (kcell ck) : sProp 𝕄))) $$ HI
  icases HK with ⟨%K, #HI⟩
  ihave Htk := (toks_around (F := F)) $$ Htok
  iapply (bigSep_beside (R := records (snt m) K) (Φ := fun c => linear c) fun c _ => (by
    unfold G'; iintro ⟨HR, HL⟩; iexists K; isplitl [HR] <;> iassumption))
  isplitr
  · unfold records; isplitl; · iexact HI
    iexact HR
  · unfold linear; rw [bigSep_sep']
    isplitl [Hat]; · iexact Hat
    iexact Htk

/-- The one global step before the devices start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

omit [FloatOps F] in
theorem tally_at (g g' : GSem nD τ sig) (n : ℕ) : tallyAt (nD := nD) (τ := τ) (sig := sig) g () n g' () = if g' = g then n else 0 := by
  rw [tallyAt_apply]; simp

omit [FloatOps F] in
theorem cell_eq_iff {c c' : Dev nD} {k k' : Kind3} : kcell (c, k) = kcell (c', k') ↔ c = c' ∧ k = k' :=
  ⟨fun h => Prod.mk.inj (kcell_injective h), fun h => by rw [h.1, h.2]⟩

omit [FloatOps F] in
theorem owed_at (d c : Dev nD) (k : Kind3) : O₀ d (kcell (c, k)) () = match k with
    | .bar => (if d = src 0 c then 1 else 0) + (if d = src 1 c then 1 else 0) + (if d = src 2 c then 1 else 0)
    | .send _ => 0
    | .recv j => if d = src j c then N else 0 := by
  have hb (j : Fin 3) : barDue j d (kcell (c, k)) () = if k = .bar ∧ d = src j c then 1 else 0 := by
    show tallyAt (kcell (tgt j d, .bar)) () 1 (kcell (c, k)) () = _
    rw [tally_at]
    refine if_congr (cell_eq_iff.trans ⟨fun h => ⟨h.2, by rw [h.1, src_tgt]⟩, fun h => ⟨by rw [h.2, tgt_src], h.1⟩⟩) rfl rfl
  have hr (j : Fin 3) : recvDue j d (kcell (c, k)) () = if k = .recv j ∧ d = src j c then N else 0 := by
    show tallyAt (kcell (tgt j d, .recv j)) () N (kcell (c, k)) () = _
    rw [tally_at]
    refine if_congr (cell_eq_iff.trans ⟨fun h => ⟨h.2, by rw [h.1, src_tgt]⟩, fun h => ⟨by rw [h.2, tgt_src], h.1⟩⟩) rfl rfl
  unfold O₀ owedSends
  simp only [Pi.add_apply, Finsupp.add_apply, Pi.zero_apply, Finsupp.zero_apply, hb, hr]
  cases k with
  | bar => simp; omega
  | send j => simp
  | recv j => fin_cases j <;> simp

omit [FloatOps F] in
theorem launch_at (c : Dev nD) (k : Kind3) (n : ℕ) (h : ∑ d : Dev nD, O₀ d (kcell (c, k)) () = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

omit [FloatOps F] in
theorem launch_bar (c : Dev nD) :
    tallyOn (barCell c) (launchCredit (Pipeline.owing O₀) 0 (barCell c)) = (tallyAt (barCell c) () 3 : CellTallies nD τ sig Unit) :=
  launch_at c .bar 3 (by
    rw [Finset.sum_congr rfl fun d _ => owed_at d c .bar]
    simp only [Finset.sum_add_distrib, Finset.sum_ite_eq', Finset.mem_univ, if_true])

omit [FloatOps F] in
theorem launch_recv (c : Dev nD) (j : Fin 3) :
    tallyOn (recvCell j c) (launchCredit (Pipeline.owing O₀) 0 (recvCell j c)) = (tallyAt (recvCell j c) () N : CellTallies nD τ sig Unit) :=
  launch_at c (.recv j) N (by
    rw [Finset.sum_congr rfl fun d _ => owed_at d c (.recv j)]
    simp only [Finset.sum_ite_eq', Finset.mem_univ, if_true])

omit [FloatOps F] in
theorem creds (c : Dev nD) : (Pipeline.launchCred O₀ c : sProp 𝕄) ⊢ credits c := by
  unfold Pipeline.launchCred credits
  rw [← launch_bar, ← launch_recv, ← launch_recv, ← launch_recv]
  refine (BI.bigSep_subset (Finset.subset_univ ([SemLoc.reg barS, .dma (recvS 0), .dma (recvS 1), .dma (recvS 2)] : List (SemLoc sig)).toFinset)).trans ?_
  rw [bigSep_eq_bigSepL_of_eq [SemLoc.reg barS, .dma (recvS 0), .dma (recvS 1), .dma (recvS 2)] (by decide) (by decide)]
  exact BI.Entails.refl _

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

omit [FloatOps F] in
theorem scratches_eq (c : Dev nD) : (scratches c : sProp 𝕄) = Pipeline.scopedRest cfg0.spec c := by
  rw [scopedRest0_eq]; unfold scratches
  simp only [Memref.view_whole, View.set_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scratches_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ← scratches_eq]
  unfold Φ₁
  rw [counters_eq]
  iintro ⟨Hr, Hu, Ho⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The arrays of device `c` after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, at any float values, the four devices' program ends, every device's arrays at
    the computed contents and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The four argument arrays are what they were. -/
theorem finalA_in (c : Dev nD) (w : Fin cfg0.W) (hw : (cfg0.win w).isOut = false) :
    finalA m c w = m ((cfg0.win w).arr.view.loc (c : Thread nD τ)) :=
  (dats (F := F) m 0 c).arrAt_in w hw _

end Cert.Exchange

end
-- ==== Proof.Frames.lean ====
/-
# The frames

The programs run, leave their arguments as they were and end with every counter at zero. The program read at exact
arithmetic and the one read at machine floats have one text, so the second frame is the same run at the other values.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Exchange

open Idealize.ShloMosaic
open Idealize.ShloMosaic.TcCoe
open Idealize.SL.Sem

/-- The precondition's program has the shapes its operations ask for, read of the kernel's blocks. -/
theorem facts_routed : Cert.Pre_routed_KernelIdeal.Facts where
  bcast_S_S512x2 := by decide
  reducesTo_S512x2_S_d0_1 := by decide
  h_S_ := by decide
  bcast_S_S512x256 := by decide
  reducesTo_S512x256_S_d0_1 := by decide
  bcast_S_S256x16 := by decide
  reducesTo_S256x16_S_d0_1 := by decide

/-- The same of the reference's whole arrays. -/
theorem facts_routed_whole : Cert.Pre_routed_ReferenceIdeal.Facts where
  bcast_S_S512x2 := by decide
  reducesTo_S512x2_S_d0_1 := by decide
  h_S_ := by decide
  bcast_S_S512x256 := by decide
  reducesTo_S512x256_S_d0_1 := by decide
  bcast_S_S256x16 := by decide
  reducesTo_S256x16_S_d0_1 := by decide

section Kernel

open Cert.KernelIdeal Cert.KernelIdeal.Gen

variable {F : FTy → Type} [FloatOps F]

/-- At any float values the program ends with its four arguments unchanged and every counter at zero. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c 0).trans (finalA_in m c 0 rfl), (h.1 c 1).trans (finalA_in m c 1 rfl),
    (h.1 c 2).trans (finalA_in m c 2 rfl), (h.1 c 3).trans (finalA_in m c 3 rfl)⟩, h.2⟩) (run_main m ρ)

end Kernel

/-- The kernel's body is one text in the two programs. -/
theorem bodies_eq : Cert.Kernel.defs₀ (F := Bits) = Cert.KernelIdeal.defs₀ (F := Bits) := by
  refine congrArg (Defs.onTc (nD := Cert.KernelIdeal.nD) (τ := Cert.KernelIdeal.τ) (sig := Cert.KernelIdeal.sig) (Val := Elt Bits)
    (Λ := Cert.KernelIdeal.Λ₀)) ?_
  funext l a
  match l, a with
  | 0, (t, s) => rfl
  | ⟨_ + 1, h⟩, _ => exact absurd h (by omega)

/-- So is the table the launch runs. -/
theorem tables_eq : Cert.Kernel.defs (F := Bits) = Cert.KernelIdeal.defs (F := Bits) :=
  congrArg (Pipeline.defs (Cert.KernelIdeal.pcfgs (F := Bits))) bodies_eq

/-- The frame of the program at machine floats. -/
theorem frame_kernel : Cert.quiescent_Kernel := fun m ρ _ => by
  rw [tables_eq]
  exact run_frame (F := Bits) m ρ

/-- The frame of the program at exact arithmetic. -/
theorem frame_ideal : Cert.quiescent_KernelIdeal := fun m ρ _ => run_frame m ρ

/-- The frame of the reference. -/
theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run m ρ)

end Cert.Exchange

end
-- ==== Proof.Chunk.lean ====
/-
# One chunk of 128 tokens on one device

The four chunks the kernel computes are one function of the rows, the indices and the device's four expert
matrices. Here that function is written once, and each of the kernel's four is shown to be it.
-/
module

public import proofs.«01_k».proof.Proof.Contents
public import Idealize.ShloMosaic.Lib.Pipeline.Value

@[expose] public section

noncomputable section

namespace Cert.Exchange

open Cert.KernelIdeal Cert.KernelIdeal.Gen

open Idealize.ShloMosaic

variable {F : FTy → Type} [FloatOps F]

/-- The router's scores of a chunk. -/
def scores (r : FVec F S256x16 .f32) (x : FVec F S128x256 .f32) : FVec F S128x16 .f32 :=
  matmul dot_S128x256_S256x16_S128x16_1_0_0_1_n_n none x r (constant S128x16 .f32 0x00000000#32)

/-- One number per token, repeated over the sixteen experts. -/
def spread (v : FVec F S128 .f32) : FVec F S128x16 .f32 :=
  broadcastTo S128x16 (shapeCast S128x1 v shapeCasts_S128_S128x1) broadcasts_S128x1_S128x16

/-- The exponentials of the scores, each token's greatest taken off. -/
def powers (s : FVec F S128x16 .f32) : FVec F S128x16 .f32 :=
  exp (subf s (spread (multiReduction .maximumf [1] S128 s 0xFF800000#32 reduces_S128x16_S128 (.inl rfl) rfl)))

/-- The softmax of the scores. -/
def probs (s : FVec F S128x16 .f32) : FVec F S128x16 .f32 :=
  divf (powers s) (spread (multiReduction .add [1] S128 (powers s) 0x00000000#32 reduces_S128x16_S128 (.inl rfl) rfl))

/-- Each token's entry at its own expert, as a sum over the sixteen with all the others zero. -/
def pick (i : IVec S128x1 32) (p : FVec F S128x16 .f32) : FVec F S128x1 .f32 :=
  shapeCast S128x1 (multiReduction .add [1] S128 (select (cmpi .eq (iota .tc S128x16 32 [1] iota_S128x16_d1_w32)
    (broadcastTo S128x16 i broadcasts_S128x1_S128x16)) p (broadcast S128x16 (Scalar.ofBits .f32 0x00000000#32)))
    0x00000000#32 reduces_S128x16_S128 (.inl rfl) rfl) shapeCasts_S128_S128x1

/-- A gate where the token's expert is number `e`, and zero elsewhere. -/
def gateAt (e : BitVec 32) (i : IVec S128x1 32) (G : FVec F S128x1 .f32) : FVec F S128x1 .f32 :=
  select (cmpi .eq i (broadcast S128x1 e)) G (broadcast S128x1 (Scalar.ofBits .f32 0x00000000#32))

/-- The rows scaled by the gate of expert number `e`, times its matrix. -/
def gated (e : BitVec 32) (x : FVec F S128x256 .f32) (i j : IVec S128x1 32) (G0 G1 : FVec F S128x1 .f32) (w : Vec F S1x256x512 .f32) :
    FVec F S128x512 .f32 :=
  matmul dot_S128x256_S256x512_S128x512_1_0_0_1_n_n none
    (mulf x (broadcastTo S128x256 (addf (gateAt e i G0) (gateAt e j G1)) broadcasts_S128x1_S128x256))
    (shapeCast S256x512 w shapeCasts_S1x256x512_S256x512) (constant S128x512 .f32 0x00000000#32)

/-- The four experts' gated outputs, summed in order. -/
def mixed (v2 : BitVec 32) (x : FVec F S128x256 .f32) (i j : IVec S128x1 32) (G0 G1 : FVec F S128x1 .f32)
    (w0 w1 w2 w3 : Vec F S1x256x512 .f32) : FVec F S128x512 .f32 :=
  addf (addf (addf (addf (broadcast S128x512 (Scalar.ofBits .f32 0x00000000#32))
    (gated (Scalar.addi (Scalar.muli v2 4#32) 0#32) x i j G0 G1 w0)) (gated (Scalar.addi (Scalar.muli v2 4#32) 1#32) x i j G0 G1 w1))
    (gated (Scalar.addi (Scalar.muli v2 4#32) 2#32) x i j G0 G1 w2)) (gated (Scalar.addi (Scalar.muli v2 4#32) 3#32) x i j G0 G1 w3)

/-- A chunk's output of the device's four experts. -/
def chunk (v2 : BitVec 32) (r : FVec F S256x16 .f32) (x : FVec F S128x256 .f32) (i j : IVec S128x1 32)
    (w0 w1 w2 w3 : Vec F S1x256x512 .f32) : FVec F S128x512 .f32 :=
  let g0 := pick i (probs (scores r x))
  let g1 := pick j (probs (scores r x))
  mixed v2 x i j (divf g0 (addf g0 g1)) (divf g1 (addf g0 g1)) w0 w1 w2 w3

/-- The chunk with its operands as the kernel reads them, each cast to its own shape. -/
def chunkC (v2 : BitVec 32) (r : Vec F S256x16 .f32) (x : Vec F S128x256 .f32) (i j : Vec F S128x1 .i32)
    (w0 w1 w2 w3 : Vec F S1x256x512 .f32) : FVec F S128x512 .f32 :=
  chunk v2 (shapeCast S256x16 r shapeCasts_S256x16_S256x16) (shapeCast S128x256 x shapeCasts_S128x256_S128x256)
    (shapeCast S128x1 i shapeCasts_S128x1_S128x1) (shapeCast S128x1 j shapeCasts_S128x1_S128x1) w0 w1 w2 w3

/-- A chunk as it is sent: its numbers narrowed to sixteen bits, with a leading axis of length one. -/
def wire (v : FVec F S128x512 .f32) : FVec F S1x128x512 .bf16 :=
  shapeCast S1x128x512 (truncf .bf16 v bitsLt_bf16_f32) shapeCasts_S128x512_S1x128x512

section Same

variable (v2 : BitVec 32) (r : Vec F S256x16 .f32) (x : Vec F S128x256 .f32) (i j : Vec F S128x1 .i32)
  (w0 w1 w2 w3 : Vec F S1x256x512 .f32)

/-- The first block sent is the chunk. -/
theorem sent0_eq : sent0 v2 r x i j w0 w1 w2 w3 = wire (chunkC v2 r x i j w0 w1 w2 w3) := rfl

/-- So is the second. -/
theorem sent1_eq : sent1 v2 r x i j w0 w1 w2 w3 = wire (chunkC v2 r x i j w0 w1 w2 w3) := rfl

/-- So is the third. -/
theorem sent2_eq : sent2 v2 r x i j w0 w1 w2 w3 = wire (chunkC v2 r x i j w0 w1 w2 w3) := rfl

/-- The block kept is the chunk, unnarrowed. -/
theorem kept_eq : kept v2 r x i j w0 w1 w2 w3 = chunkC v2 r x i j w0 w1 w2 w3 := rfl

/-- Casting an operand to its own shape changes nothing. -/
theorem chunkC_eq : chunkC v2 r x i j w0 w1 w2 w3 = chunk v2 r x i j w0 w1 w2 w3 := by
  unfold chunkC
  rw [shapeCast_self, shapeCast_self, shapeCast_self, shapeCast_self]

end Same

end Cert.Exchange

end
-- ==== Proof.Mix.lean ====
/-
# One token's mixture of experts

The mathematics of the kernel on one token, over the extended reals: the router's scores, their softmax, the two
gates, and the law by which a sum over all experts of gated products is the sum of the two chosen experts' outputs.
-/
module

public import Idealize.ShloMosaic.PureOps.Ideal
public import Idealize.ShloMosaic.PureOps.Ideal.Laws

@[expose] public section

noncomputable section

namespace Cert.Exchange

open Idealize.ShloMosaic

/-- The router's score of expert `e` for a token's row. -/
def score (x : Fin 256 → EReal) (R : Fin 256 → Fin 16 → EReal) (e : Fin 16) : EReal := ∑ d, x d * R d e

/-- The greatest of the sixteen scores. -/
def best (s : Fin 16 → EReal) : EReal := Finset.univ.fold max ⊥ s

/-- The softmax of the scores at expert `e`. -/
def prob (s : Fin 16 → EReal) (e : Fin 16) : EReal := Ideal.div (Ideal.exp (s e - best s)) (∑ k, Ideal.exp (s k - best s))

/-- The gate of the expert `e` against the pair `e`, `o` of chosen experts. -/
def share (s : Fin 16 → EReal) (e o : Fin 16) (a : Fin 16) : EReal := Ideal.div (prob s a) (prob s e + prob s o)

/-- An expert's output for a token's row. -/
def expert (x : Fin 256 → EReal) (W : Fin 256 → EReal) : EReal := ∑ d, x d * W d

/-- Real numbers: neither infinity. -/
def IsReal (a : EReal) : Prop := ∃ r : ℝ, a = r

/-- A number with a magnitude below infinity is real. -/
theorem isReal_of_abs_lt {a : EReal} (h : max a (-a) < ⊤) : IsReal a := by
  induction a using EReal.rec with
  | bot => simp at h
  | coe r => exact ⟨r, rfl⟩
  | top => simp at h

theorem IsReal.sum {n : ℕ} {f : Fin n → EReal} (h : ∀ i, IsReal (f i)) : IsReal (∑ i, f i) := by
  choose r hr using h
  refine ⟨∑ i, r i, ?_⟩
  rw [funext hr]
  exact (map_sum (⟨⟨fun r : ℝ => (r : EReal), rfl⟩, EReal.coe_add⟩ : ℝ →+ EReal) r Finset.univ).symm

/-- Scores of real rows against real columns are real. -/
theorem score_real {x : Fin 256 → EReal} {R : Fin 256 → Fin 16 → EReal} (hx : ∀ d, IsReal (x d)) (hR : ∀ d e, IsReal (R d e))
    (e : Fin 16) : IsReal (score x R e) :=
  IsReal.sum fun d => by
    obtain ⟨a, ha⟩ := hx d
    obtain ⟨b, hb⟩ := hR d e
    exact ⟨a * b, by rw [ha, hb, EReal.coe_mul]⟩

/-- The greatest of sixteen real scores is real. -/
theorem best_real {s : Fin 16 → EReal} (hs : ∀ e, IsReal (s e)) : IsReal (best s) := by
  have hlt : best s < ⊤ := (Finset.fold_max_lt _).2 ⟨bot_lt_top, fun e _ => by
    obtain ⟨r, hr⟩ := hs e
    rw [hr]
    exact EReal.coe_lt_top r⟩
  have hgt : ⊥ < best s := by
    obtain ⟨r, hr⟩ := hs 0
    exact (hr ▸ EReal.bot_lt_coe r : ⊥ < s 0).trans_le ((Finset.le_fold_max _).2 (.inr ⟨0, Finset.mem_univ _, le_rfl⟩))
  exact ⟨(best s).toReal, (EReal.coe_toReal hlt.ne hgt.ne').symm⟩

/-- A softmax of real scores is a positive real number at every expert. -/
theorem prob_pos {s : Fin 16 → EReal} (hs : ∀ e, IsReal (s e)) (e : Fin 16) : ∃ p : ℝ, 0 < p ∧ prob s e = p := by
  obtain ⟨b, hb⟩ := best_real hs
  choose r hr using hs
  have hexp : ∀ k, Ideal.exp (s k - best s) = (Real.exp (r k - b) : EReal) := fun k => by
    rw [hr k, hb, ← EReal.coe_sub, Ideal.exp_coe]
  have hsum : (∑ k, Ideal.exp (s k - best s)) = ((∑ k, Real.exp (r k - b) : ℝ) : EReal) := by
    rw [funext hexp]
    exact (map_sum (⟨⟨fun r : ℝ => (r : EReal), rfl⟩, EReal.coe_add⟩ : ℝ →+ EReal) _ Finset.univ).symm
  have hpos : 0 < ∑ k, Real.exp (r k - b) := Finset.sum_pos (fun k _ => Real.exp_pos _) ⟨0, Finset.mem_univ _⟩
  refine ⟨Real.exp (r e - b) * (1 / ∑ k, Real.exp (r k - b)), mul_pos (Real.exp_pos _) (one_div_pos.2 hpos), ?_⟩
  rw [prob, hexp, hsum, Ideal.div_coe hpos.ne', EReal.coe_mul]

/-- A gate is a real number, and not a negative one. -/
theorem share_nonneg {s : Fin 16 → EReal} (hs : ∀ e, IsReal (s e)) (e o a : Fin 16) :
    0 ≤ share s e o a ∧ share s e o a ≠ ⊤ := by
  obtain ⟨p, hp, hpe⟩ := prob_pos hs e
  obtain ⟨q, hq, hqe⟩ := prob_pos hs o
  obtain ⟨g, hg, hge⟩ := prob_pos hs a
  have h : share s e o a = ((g * (1 / (p + q)) : ℝ) : EReal) := by
    rw [share, hpe, hqe, hge, ← EReal.coe_add, Ideal.div_coe (add_pos hp hq).ne', EReal.coe_mul]
  rw [h]
  exact ⟨EReal.coe_nonneg.2 (mul_nonneg hg.le (one_div_nonneg.2 (add_pos hp hq).le)), EReal.coe_ne_top _⟩

/-- Scaling a row by a gate scales its output. -/
theorem expert_gated {g : EReal} (h0 : 0 ≤ g) (ht : g ≠ ⊤) (x W : Fin 256 → EReal) :
    (∑ d, x d * g * W d) = g * expert x W := by
  have key : ∀ t : Finset (Fin 256), (∑ d ∈ t, x d * g * W d) = g * ∑ d ∈ t, x d * W d := by
    intro t
    induction t using Finset.induction_on with
    | empty => simp
    | insert a t ha ih =>
      rw [Finset.sum_insert ha, Finset.sum_insert ha, ih, EReal.left_distrib_of_nonneg_of_ne_top h0 ht, mul_comm (x a) g, mul_assoc]
  exact key _

/-- The gate of expert `k`: its share if it is the first of the pair, and its share if it is the second. -/
def gate (G0 G1 : EReal) (e o k : Fin 16) : EReal := (if e = k then G0 else 0) + (if o = k then G1 else 0)

/-- Over all sixteen experts, the gated outputs sum to the two chosen ones. -/
theorem sum_gate {G0 G1 : EReal} (h0 : 0 ≤ G0) (h1 : 0 ≤ G1) (e o : Fin 16) (Y : Fin 16 → EReal) :
    (∑ k, gate G0 G1 e o k * Y k) = G0 * Y e + G1 * Y o := by
  have hk : ∀ k, gate G0 G1 e o k * Y k = (if e = k then G0 * Y k else 0) + (if o = k then G1 * Y k else 0) := fun k => by
    unfold gate
    rw [EReal.right_distrib_of_nonneg (by split <;> simp [h0]) (by split <;> simp [h1])]
    congr 1 <;> split <;> simp
  rw [Finset.sum_congr rfl fun k _ => hk k, Finset.sum_add_distrib]
  simp

/-- One expert's part of a token's output as the kernel computes it: the row scaled by the gate, times the expert's matrix. -/
def part (x : Fin 256 → EReal) (g : EReal) (W : Fin 256 → EReal) : EReal := ∑ d, x d * g * W d

/-- A token's output: the two chosen experts' outputs, each times its share. -/
def mixture (x : Fin 256 → EReal) (R : Fin 256 → Fin 16 → EReal) (e o : Fin 16) (W : Fin 16 → Fin 256 → EReal) : EReal :=
  share (score x R) e o e * expert x (W e) + share (score x R) e o o * expert x (W o)

/-- The sum over all sixteen experts of their gated parts is the token's output. -/
theorem sum_part {x : Fin 256 → EReal} {R : Fin 256 → Fin 16 → EReal} (hx : ∀ d, IsReal (x d)) (hR : ∀ d e, IsReal (R d e))
    (e o : Fin 16) (W : Fin 16 → Fin 256 → EReal) :
    (∑ k, part x (gate (share (score x R) e o e) (share (score x R) e o o) e o k) (W k)) = mixture x R e o W := by
  have hs := score_real hx hR
  obtain ⟨a0, at'⟩ := share_nonneg hs e o e
  obtain ⟨b0, bt⟩ := share_nonneg hs e o o
  rw [mixture, ← sum_gate a0 b0 e o fun k => expert x (W k)]
  refine Finset.sum_congr rfl fun k _ => expert_gated ?_ ?_ _ _
  · unfold gate
    exact add_nonneg (by split <;> simp [a0]) (by split <;> simp [b0])
  · unfold gate
    refine EReal.add_ne_top ?_ ?_ <;> split <;> simp [at', bt]

end Cert.Exchange

end
-- ==== Proof.ChunkAt.lean ====
/-
# A chunk, one number at a time

At exact arithmetic each number of a chunk's output is the sum, over the device's four experts, of the gated parts
of one token's mixture.
-/
module

public import proofs.«01_k».proof.Proof.Chunk
public import proofs.«01_k».proof.Proof.Mix
public import Idealize.ShloMosaic.Lib.MatmulPlain
public import Idealize.ShloMosaic.Lib.ValueIdx
public import Idealize.ShloMosaic.Lib.Affine

@[expose] public section

noncomputable section

namespace Cert.Exchange

open Cert.KernelIdeal Cert.KernelIdeal.Gen

open Idealize.ShloMosaic
open Idealize.ShloMosaic.ValueIdx

/-- The pattern of the negative infinity. -/
theorem ofBits_bot : Ideal.ofBits .f32 0xFF800000#32 = ⊥ := by simp [Ideal.ofBits, Ideal.ieee]

/-- A row's index with its dropped column put back. -/
theorem lift_row (t : Fin 128) (k : Fin 16) : reduces_S128x16_S128.lift (ix1 t) k = ix2 t k := by
  funext a
  match a with
  | ⟨0, _⟩ => rfl
  | ⟨1, _⟩ => rfl

/-- A vector of one number per row, read as a column. -/
theorem column_at (v : FVec Ideal S128 .f32) (t : Fin 128) (z : Fin 1) : shapeCast S128x1 v shapeCasts_S128_S128x1 (ix2 t z) = v (ix1 t) := by
  obtain rfl : z = 0 := Subsingleton.elim _ _
  refine shapeCast_apply _ _ _ _ ?_
  revert t; decide +kernel

/-- A column repeated along rows. -/
theorem repeat_at {n : ℕ} {α : Type} (v : S128x1.Idx → α) (h : S128x1.Broadcasts ⟨2, ![128, n]⟩) (t : Fin 128) (k : Fin n) :
    broadcastTo ⟨2, ![128, n]⟩ v h (ix2 t k) = v (ix2 t 0) :=
  broadcastTo_apply _ _ _ _ fun a => by
    match a with
    | ⟨0, _⟩ => rfl
    | ⟨1, _⟩ => rfl

theorem spread_at (v : FVec Ideal S128 .f32) (t : Fin 128) (k : Fin 16) : spread v (ix2 t k) = v (ix1 t) :=
  (repeat_at _ _ t k).trans (column_at v t 0)

/-- A token's scores. -/
theorem scores_at (r : FVec Ideal S256x16 .f32) (x : FVec Ideal S128x256 .f32) (t : Fin 128) (k : Fin 16) :
    scores r x (ix2 t k) = score (fun d => x (ix2 t d)) (fun d e => r (ix2 d e)) k := by
  refine (Ideal.matmul_plain_apply (M := 128) (K := 256) (N := 16) none x r _ t k).trans ?_
  rw [constant_apply, Ideal.ofBits_zero_f32, zero_add, score]

/-- A token's exponentials. -/
theorem powers_at (s : FVec Ideal S128x16 .f32) (t : Fin 128) (k : Fin 16) :
    powers s (ix2 t k) = Ideal.exp (s (ix2 t k) - best fun k => s (ix2 t k)) := by
  refine congrArg (fun b : EReal => Ideal.exp (s (ix2 t k) - b)) ((spread_at _ t k).trans ?_)
  refine (Ideal.multiReduction_maximumf_single _ _ _ _ _ _).trans ?_
  rw [Ideal.ofBits_def, ofBits_bot, best]
  rw [show s ∘ reduces_S128x16_S128.lift (ix1 t) = fun k => s (ix2 t k) from funext fun k => congrArg s (lift_row t k)]
  rfl

/-- A token's softmax. -/
theorem probs_at (s : FVec Ideal S128x16 .f32) (t : Fin 128) (k : Fin 16) :
    probs s (ix2 t k) = prob (fun k => s (ix2 t k)) k := by
  refine congrArg₂ Ideal.div (powers_at s t k) ((spread_at _ t k).trans ((Ideal.multiReduction_add_single _ _ _ _ _ _).trans ?_))
  exact Finset.sum_congr rfl fun e _ => (congrArg (powers s) (lift_row t e)).trans (powers_at s t e)

/-- A comparison of two small numbers' words for equality, as a choice between two numbers. -/
theorem select_word (a b : Fin 16) (u v : EReal) :
    Scalar.select (IntOp.cmpi .eq (BitVec.ofNat 32 a.val) (BitVec.ofNat 32 b.val)) u v = if a = b then u else v := by
  have hw : BitVec.ofNat 32 a.val = BitVec.ofNat 32 b.val ↔ a = b := by
    constructor
    · intro h
      have := congrArg BitVec.toNat h
      simp only [BitVec.toNat_ofNat] at this
      exact Fin.ext (by omega)
    · rintro rfl; rfl
  by_cases h : a = b
  · rw [if_pos h, IntOp.cmpi_eq.2 (hw.2 h), select_one]
  · rw [if_neg h, eq_zero_of_ne_one (mt IntOp.cmpi_eq.1 (mt hw.1 h)), select_zero]

/-- The entry picked out for a token is the one at its expert. -/
theorem pick_at (i : IVec S128x1 32) (p : FVec Ideal S128x16 .f32) (t : Fin 128) (z : Fin 1) (e : Fin 16)
    (he : i (ix2 t 0) = BitVec.ofNat 32 e.val) : pick i p (ix2 t z) = p (ix2 t e) := by
  refine (column_at _ t z).trans ?_
  refine (Ideal.multiReduction_add_single _ _ _ _ _ _).trans ?_
  have hk : ∀ k : Fin 16, select (cmpi .eq (iota .tc S128x16 32 [1] iota_S128x16_d1_w32) (broadcastTo S128x16 i broadcasts_S128x1_S128x16)) p
      (broadcast S128x16 (Scalar.ofBits (F := Ideal) .f32 0x00000000#32)) (reduces_S128x16_S128.lift (ix1 t) k) = if k = e then p (ix2 t e) else 0 := fun k => by
    rw [lift_row, select_apply]
    show Scalar.select (IntOp.cmpi .eq (iota .tc S128x16 32 [1] iota_S128x16_d1_w32 (ix2 t k)) (broadcastTo S128x16 i broadcasts_S128x1_S128x16 (ix2 t k)))
      (p (ix2 t k)) (Ideal.ofBits .f32 0x00000000#32) = _
    rw [iota_single_apply, show broadcastTo S128x16 i broadcasts_S128x1_S128x16 (ix2 t k) = i (ix2 t 0) from repeat_at i _ t k, he, Ideal.ofBits_zero_f32]
    refine (select_word k e _ _).trans ?_
    split
    · next h => rw [h]
    · rfl
  refine (Finset.sum_congr rfl fun k _ => hk k).trans (Fintype.sum_ite_eq' e fun _ => p (ix2 t e))

/-- A gate, at a token. -/
theorem gateAt_at (n : BitVec 32) (k : Fin 16) (hn : n = BitVec.ofNat 32 k.val) (i : IVec S128x1 32) (G : FVec Ideal S128x1 .f32) (t : Fin 128)
    (e : Fin 16) (he : i (ix2 t 0) = BitVec.ofNat 32 e.val) :
    gateAt n i G (ix2 t 0) = if e = k then G (ix2 t 0) else 0 := by
  show Scalar.select (IntOp.cmpi .eq (i (ix2 t 0)) n) (G (ix2 t 0)) (Ideal.ofBits .f32 0x00000000#32) = _
  rw [Ideal.ofBits_zero_f32, he, hn, select_word]

/-- One expert's gated product, at a token and a feature. -/
theorem gated_at (n : BitVec 32) (k : Fin 16) (hn : n = BitVec.ofNat 32 k.val) (x : FVec Ideal S128x256 .f32) (i j : IVec S128x1 32)
    (G0 G1 : FVec Ideal S128x1 .f32) (w : Vec Ideal S1x256x512 .f32) (t : Fin 128) (f : Fin 512) (e o : Fin 16)
    (he : i (ix2 t 0) = BitVec.ofNat 32 e.val) (ho : j (ix2 t 0) = BitVec.ofNat 32 o.val) :
    gated n x i j G0 G1 w (ix2 t f)
      = part (fun d => x (ix2 t d)) (gate (G0 (ix2 t 0)) (G1 (ix2 t 0)) e o k) fun d => w (ix3 0 d f) := by
  refine (Ideal.matmul_plain_apply (M := 128) (K := 256) (N := 512) none _ _ _ t f).trans ?_
  rw [constant_apply, Ideal.ofBits_zero_f32, zero_add, part]
  refine Finset.sum_congr rfl fun d _ => ?_
  rw [mulf_apply, show broadcastTo S128x256 (addf (gateAt n i G0) (gateAt n j G1)) broadcasts_S128x1_S128x256 (ix2 t d)
    = addf (gateAt n i G0) (gateAt n j G1) (ix2 t 0) from repeat_at _ _ t d, addf_apply, gateAt_at n k hn i G0 t e he, gateAt_at n k hn j G1 t o ho]
  congr 1
  refine (shapeCast_dropUnit_apply ![256, 512] w _ _).trans (congrArg w ?_)
  funext a
  match a with
  | ⟨0, _⟩ => rfl
  | ⟨1, _⟩ => rfl
  | ⟨2, _⟩ => rfl

/-- The number of a device's expert, as the kernel computes its word. -/
theorem expertWord (n q : Fin 4) :
    Scalar.addi (Scalar.muli (BitVec.ofNat 32 n.val) 4#32) (BitVec.ofNat 32 q.val) = BitVec.ofNat 32 (4 * n.val + q.val) := by
  revert n q; decide +kernel

/-- Expert `q` of device `n`. -/
def expertOf (n q : Fin 4) : Fin 16 := ⟨4 * n.val + q.val, by omega⟩

/-- A chunk's output, at a token and a feature: the device's four experts' parts. -/
theorem chunk_at (n : Fin 4) (r : FVec Ideal S256x16 .f32) (x : FVec Ideal S128x256 .f32) (i j : IVec S128x1 32)
    (w : Fin 4 → Vec Ideal S1x256x512 .f32) (t : Fin 128) (f : Fin 512) (e o : Fin 16)
    (he : i (ix2 t 0) = BitVec.ofNat 32 e.val) (ho : j (ix2 t 0) = BitVec.ofNat 32 o.val) :
    chunk (BitVec.ofNat 32 n.val) r x i j (w 0) (w 1) (w 2) (w 3) (ix2 t f)
      = ∑ q : Fin 4, part (fun d => x (ix2 t d))
          (gate (share (score (fun d => x (ix2 t d)) fun d k => r (ix2 d k)) e o e)
            (share (score (fun d => x (ix2 t d)) fun d k => r (ix2 d k)) e o o) e o (expertOf n q)) fun d => w q (ix3 0 d f) := by
  have hp : ∀ k, probs (scores r x) (ix2 t k) = prob (score (fun d => x (ix2 t d)) fun d k => r (ix2 d k)) k := fun k => by
    rw [probs_at]
    exact congrArg (prob · k) (funext fun k => scores_at r x t k)
  have h0 := (pick_at i (probs (scores r x)) t 0 e he).trans (hp e)
  have h1 := (pick_at j (probs (scores r x)) t 0 o ho).trans (hp o)
  have hg := fun (q : Fin 4) G0 G1 => gated_at _ (expertOf n q) (expertWord n q) x i j G0 G1 (w q) t f e o he ho
  rw [chunk, mixed]
  simp only [addf_apply]
  refine (congrArg₂ (· + ·) (congrArg₂ (· + ·) (congrArg₂ (· + ·) (congrArg₂ (· + ·) rfl (hg 0 _ _)) (hg 1 _ _)) (hg 2 _ _)) (hg 3 _ _)).trans ?_
  simp only [divf_apply, addf_apply, h0, h1]
  rw [Fin.sum_univ_four]
  show Ideal.ofBits .f32 0x00000000#32 + _ + _ + _ + _ = _
  rw [Ideal.ofBits_zero_f32, zero_add]
  rfl

end Cert.Exchange

end
-- ==== Proof.Output.lean ====
/-
# The kernel's result, one number at a time

At exact arithmetic the array a device ends with is, at each token and feature, the sum of four devices' parts: its own
and the three it was sent, each of them the parts of that device's four experts.
-/
module

public import proofs.«01_k».proof.Proof.ChunkAt
public import proofs.«01_k».proof.Proof.Launch
public import Idealize.ShloMosaic.Lib.Pipeline.ValueKit.Geometry

@[expose] public section

noncomputable section

namespace Cert.Exchange

open Cert.KernelIdeal Cert.KernelIdeal.Gen

open Idealize.ShloMosaic
open Idealize.ShloMosaic.ValueIdx
open Idealize.ShloMosaic.TcCoe
open Idealize.SL.Sem

/-- Token `t` of the rows that device `p` answers for. -/
def token (p : Fin 4) (t : Fin 128) : Fin 512 := ⟨128 * p.val + t.val, by omega⟩

section Loads

variable {F : FTy → Type} [FloatOps F]

/-- A row of the loaded chunk is a row of the array. -/
theorem ldX_at (X : (cc0_stg0_0 : Ref sig .tc).ty.Contents (Elt F)) (p : Fin 4) {off : Fin 2 → ℕ} (h) (ho : off = ![128 * p.val, 0])
    (t : Fin 128) (d : Fin 256) : ldX X off h (ix2 t d) = X (ix2 (token p t) d) := by
  subst ho
  refine congrArg X (funext fun a => Fin.ext ?_)
  match a with
  | ⟨0, _⟩ => show 128 * p.val + 1 * t.val = 128 * p.val + t.val; omega
  | ⟨1, _⟩ => show 0 + 1 * d.val = d.val; omega

/-- The loaded column of a token's expert numbers is that column of the array. -/
theorem ldI_at (I : (cc0_stg2_0 : Ref sig .tc).ty.Contents (Elt F)) (p : Fin 4) (z : Fin 2) {off : Fin 2 → ℕ} (h) (ho : off = ![128 * p.val, z.val])
    (t : Fin 128) : ldI I off h (ix2 t 0) = I (ix2 (token p t) z) := by
  subst ho
  refine congrArg I (funext fun a => Fin.ext ?_)
  match a with
  | ⟨0, _⟩ => show 128 * p.val + 1 * t.val = 128 * p.val + t.val; omega
  | ⟨1, _⟩ => show z.val + 1 * 0 = z.val; omega

/-- The loaded matrix of an expert is its matrix in the array. -/
theorem ldW_at (W : (cc0_stg3_0 : Ref sig .tc).ty.Contents (Elt F)) (q : Fin 4) {off : Fin 3 → ℕ} (h) (ho : off = ![q.val, 0, 0])
    (d : Fin 256) (f : Fin 512) : ldW W off h (ix3 0 d f) = W (ix3 q d f) := by
  subst ho
  refine congrArg W (funext fun a => Fin.ext ?_)
  match a with
  | ⟨0, _⟩ => show q.val + 1 * 0 = q.val; omega
  | ⟨1, _⟩ => show 0 + 1 * d.val = d.val; omega
  | ⟨2, _⟩ => show 0 + 1 * f.val = f.val; omega

/-- The router's loaded columns are the array. -/
theorem ldR_at (R : (cc0_stg1_0 : Ref sig .tc).ty.Contents (Elt F)) (d : Fin 256) (k : Fin 16) : ldR R (ix2 d k) = R (ix2 d k) := by
  refine congrArg R (funext fun a => Fin.ext ?_)
  match a with
  | ⟨0, _⟩ => show 0 + 1 * d.val = d.val; omega
  | ⟨1, _⟩ => show 0 + 1 * k.val = k.val; omega

end Loads

/-- The rows the kernel loads for each transfer are those of the device the transfer goes to. -/
theorem off1_eq (c : Dev nD) : k0_off1 c 2#32 = ![128 * (tgt 0 c).val, 0] ∧ k0_off1 c 1#32 = ![128 * (tgt 1 c).val, 0] ∧
    k0_off1 c 3#32 = ![128 * (tgt 2 c).val, 0] := by revert c; decide +kernel
theorem off2_eq (c : Dev nD) : k0_off2 c 2#32 = ![128 * (tgt 0 c).val, 0] ∧ k0_off2 c 1#32 = ![128 * (tgt 1 c).val, 0] ∧
    k0_off2 c 3#32 = ![128 * (tgt 2 c).val, 0] := by revert c; decide +kernel
theorem off3_eq (c : Dev nD) : k0_off3 c 2#32 = ![128 * (tgt 0 c).val, 1] ∧ k0_off3 c 1#32 = ![128 * (tgt 1 c).val, 1] ∧
    k0_off3 c 3#32 = ![128 * (tgt 2 c).val, 1] := by revert c; decide +kernel

/-- A device's place on the mesh axis is its number. -/
theorem place_eq (c : Dev nD) : place c = BitVec.ofNat 32 c.val := by revert c; decide +kernel

variable (X : (cc0_stg0_0 : Ref sig .tc).ty.Contents (Elt Ideal)) (R : (cc0_stg1_0 : Ref sig .tc).ty.Contents (Elt Ideal))
  (I : (cc0_stg2_0 : Ref sig .tc).ty.Contents (Elt Ideal)) (W : (cc0_stg3_0 : Ref sig .tc).ty.Contents (Elt Ideal))

/-- What the experts of device `s` add to a token's output. -/
def lot (s : Fin 4) (T : Fin 512) (f : Fin 512) (e o : Fin 16) : EReal :=
  ∑ q : Fin 4, part (fun d => X (ix2 T d))
    (gate (share (score (fun d => X (ix2 T d)) fun d k => R (ix2 d k)) e o e)
      (share (score (fun d => X (ix2 T d)) fun d k => R (ix2 d k)) e o o) e o (expertOf s q)) fun d => W (ix3 q d f)

/-- A chunk of device `s` for the rows of device `p`, read from its arrays. -/
theorem chunkC_at (s p : Fin 4) {offX offI offJ : Fin 2 → ℕ} (hX hI hJ) (eX : offX = ![128 * p.val, 0]) (eI : offI = ![128 * p.val, (0 : Fin 2).val])
    (eJ : offJ = ![128 * p.val, (1 : Fin 2).val]) (h0 h1 h2 h3) (t : Fin 128) (f : Fin 512) (e o : Fin 16)
    (he : I (ix2 (token p t) 0) = BitVec.ofNat 32 e.val) (ho : I (ix2 (token p t) 1) = BitVec.ofNat 32 o.val) :
    chunkC (BitVec.ofNat 32 s.val) (ldR R) (ldX X offX hX) (ldI I offI hI) (ldI I offJ hJ)
      (ldW W ![0, 0, 0] h0) (ldW W ![1, 0, 0] h1) (ldW W ![2, 0, 0] h2) (ldW W ![3, 0, 0] h3) (ix2 t f) = lot X R W s (token p t) f e o := by
  have hx : (fun d => ldX X offX hX (ix2 t d)) = fun d => X (ix2 (token p t) d) := funext fun d => ldX_at X p hX eX t d
  have hr : (fun d k => ldR R (ix2 d k)) = fun d k => R (ix2 d k) := funext fun d => funext fun k => ldR_at R d k
  rw [chunkC_eq]
  refine (chunk_at s (ldR R) (ldX X offX hX) (ldI I offI hI) (ldI I offJ hJ)
    ![ldW W ![0, 0, 0] h0, ldW W ![1, 0, 0] h1, ldW W ![2, 0, 0] h2, ldW W ![3, 0, 0] h3] t f e o
    ((ldI_at I p 0 hI eI t).trans he) ((ldI_at I p 1 hJ eJ t).trans ho)).trans ?_
  rw [hx, hr]
  refine Finset.sum_congr rfl fun q _ => congrArg (part _ _) (funext fun d => ?_)
  match q with
  | 0 => exact ldW_at W 0 h0 rfl d f
  | 1 => exact ldW_at W 1 h1 rfl d f
  | 2 => exact ldW_at W 2 h2 rfl d f
  | 3 => exact ldW_at W 3 h3 rfl d f

/-- A block taken off the wire holds what was put on it. -/
theorem wire_at (v : FVec Ideal S128x512 .f32) (t : Fin 128) (f : Fin 512) : wire v (ix3 0 t f) = v (ix2 t f) := by
  refine (shapeCast_addUnit_apply ![128, 512] (truncf .bf16 v bitsLt_bf16_f32) _ _).trans (congrArg v (funext fun a => ?_))
  match a with
  | ⟨0, _⟩ => rfl
  | ⟨1, _⟩ => rfl

/-- What device `c` sends in slot `k` is its experts' share of the outputs of the device it sends to. -/
theorem sent_at (c : Dev nD) (k : Fin 3) (t : Fin 128) (f : Fin 512) (e o : Fin 16)
    (he : I (ix2 (token (tgt k c) t) 0) = BitVec.ofNat 32 e.val) (ho : I (ix2 (token (tgt k c) t) 1) = BitVec.ofNat 32 o.val) :
    sent X R I W c k (ix3 0 t f) = lot X R W c (token (tgt k c) t) f e o := by
  match k with
  | 0 =>
    refine (congrFun (sent0_eq _ _ _ _ _ _ _ _ _) _).trans ((wire_at _ t f).trans ?_)
    rw [place_eq]
    exact chunkC_at X R I W c (tgt 0 c) _ _ _ (off1_eq c).1 (off2_eq c).1 (off3_eq c).1 _ _ _ _ t f e o he ho
  | 1 =>
    refine (congrFun (sent1_eq _ _ _ _ _ _ _ _ _) _).trans ((wire_at _ t f).trans ?_)
    rw [place_eq]
    exact chunkC_at X R I W c (tgt 1 c) _ _ _ (off1_eq c).2.1 (off2_eq c).2.1 (off3_eq c).2.1 _ _ _ _ t f e o he ho
  | 2 =>
    refine (congrFun (sent2_eq _ _ _ _ _ _ _ _ _) _).trans ((wire_at _ t f).trans ?_)
    rw [place_eq]
    exact chunkC_at X R I W c (tgt 2 c) _ _ _ (off1_eq c).2.2 (off2_eq c).2.2 (off3_eq c).2.2 _ _ _ _ t f e o he ho

/-- What it keeps is their share of its own outputs. -/
theorem keeps_at (c : Dev nD) (t : Fin 128) (f : Fin 512) (e o : Fin 16)
    (he : I (ix2 (token c t) 0) = BitVec.ofNat 32 e.val) (ho : I (ix2 (token c t) 1) = BitVec.ofNat 32 o.val) :
    keeps X R I W c (ix2 t f) = lot X R W c (token c t) f e o := by
  refine (congrFun (kept_eq _ _ _ _ _ _ _ _ _) _).trans ?_
  rw [place_eq]
  exact chunkC_at X R I W c c _ _ _ (k0_off4_eq c) (k0_off5_eq c) (k0_off6_eq c) _ _ _ _ t f e o he ho

/-- A block taken off the wire, widened. -/
theorem widen_at (g : FVec Ideal S1x128x512 .bf16) (t : Fin 128) (f : Fin 512) : k0_pay57 (F := Ideal) g (ix2 t f) = g (ix3 0 t f) := by
  refine (shapeCast_dropUnit_apply ![128, 512] g _ _).trans (congrArg g (funext fun a => ?_))
  match a with
  | ⟨0, _⟩ => rfl
  | ⟨1, _⟩ => rfl
  | ⟨2, _⟩ => rfl

/-- The sum stored in the end. -/
theorem total_at (own : FVec Ideal S128x512 .f32) (g0 g1 g2 : FVec Ideal S1x128x512 .bf16) (t : Fin 128) (f : Fin 512) :
    total own g0 g1 g2 (ix2 t f) = own (ix2 t f) + g0 (ix3 0 t f) + g1 (ix3 0 t f) + g2 (ix3 0 t f) :=
  congrArg₂ (fun a b : EReal => a + b) (congrArg₂ (fun a b : EReal => a + b) (congrArg (fun b : EReal => own (ix2 t f) + b) (widen_at g0 t f)) (widen_at g1 t f))
    (widen_at g2 t f)

section Run

variable {F : FTy → Type} [FloatOps F] (m : (ℓ : Loc nD τ sig) → Buf (Elt F) ℓ)

/-- The staged copies are the arguments. -/
theorem stX_eq (c : Dev nD) : stX m c = m ((c : Thread nD τ).loc main_arg0) :=
  funext fun i => congrArg (m ((c : Thread nD τ).loc main_arg0)) (funext fun a => Fin.ext (win0_0.rect_emb_val_of_index_zero t0_0 a ((by decide +kernel : ∀ a, win0_0.index t0_0 a = 0) a) i))
theorem stR_eq (c : Dev nD) : stR m c = m ((c : Thread nD τ).loc main_arg1) :=
  funext fun i => congrArg (m ((c : Thread nD τ).loc main_arg1)) (funext fun a => Fin.ext (win0_1.rect_emb_val_of_index_zero t0_0 a ((by decide +kernel : ∀ a, win0_1.index t0_0 a = 0) a) i))
theorem stI_eq (c : Dev nD) : stI m c = m ((c : Thread nD τ).loc main_arg2) :=
  funext fun i => congrArg (m ((c : Thread nD τ).loc main_arg2)) (funext fun a => Fin.ext (win0_2.rect_emb_val_of_index_zero t0_0 a ((by decide +kernel : ∀ a, win0_2.index t0_0 a = 0) a) i))
theorem stW_eq (c : Dev nD) : stW m c = m ((c : Thread nD τ).loc main_arg3) :=
  funext fun i => congrArg (m ((c : Thread nD τ).loc main_arg3)) (funext fun a => Fin.ext (win0_3.rect_emb_val_of_index_zero t0_0 a ((by decide +kernel : ∀ a, win0_3.index t0_0 a = 0) a) i))

/-- The result's array ends as the sum the device stored. -/
theorem final_out (c : Dev nD) : finalA m c 4 = outAt m c :=
  (dats m 0 c).arrAt_eq_of_after_last 4 t0_0 (by decide +kernel) (outAt m c) fun j => rfl

end Run

end Cert.Exchange

end
-- ==== Proof.Reference.lean ====
/-
# The reference's result, one number at a time

At exact arithmetic the reference's result, at a token and a feature, is the mixture of the token's two chosen
experts, when the words naming them are in range.
-/
module

public import proofs.«01_k».proof.Proof.Mix
public import proofs.«01_k».proof.Proof.ChunkAt
public import proofs.«01_k».proof.Proof.Gen.ReferenceIdeal.Read

@[expose] public section

noncomputable section

namespace Cert.Exchange.Whole

open Cert.ReferenceIdeal Cert.ReferenceIdeal.Gen Cert.ReferenceIdeal.Read

open Idealize.ShloMosaic
open Idealize.ShloMosaic.ValueIdx

/-- The word of a small number, read as an integer. -/
theorem int_word {n : ℕ} (h : n < 2 ^ 31) : (BitVec.ofNat 32 n).toInt = n := by
  rw [BitVec.toInt_eq_toNat_of_lt (by rw [BitVec.toNat_ofNat]; omega), BitVec.toNat_ofNat]
  omega

/-- A number is not counted from the end when it is not negative. -/
theorem unwrapped {n : ℕ} (h : n < 2 ^ 31) (u : BitVec 32) :
    Scalar.select (IntOp.cmpi .slt (BitVec.ofNat 32 n) 0#32) u (BitVec.ofNat 32 n) = BitVec.ofNat 32 n := by
  rw [eq_zero_of_ne_one (mt IntOp.cmpi_slt.1 (by rw [int_word h]; simp)), select_zero]

/-- A gather of single numbers, one per token: the token's row at the entry its words name. -/
theorem entries_at (p : FVec Ideal S512x16 .f32) (w : IVec S512x2 32) (T : Fin 512) (e : Fin 16)
    (h0 : w (ix2 T 0) = BitVec.ofNat 32 T.val) (h1 : w (ix2 T 1) = BitVec.ofNat 32 e.val) :
    Host.gather gather_S512x16_S512x2_S512_n_01_n_n_01_1_11 p w (ix1 T) = p (ix2 T e) := by
  have hT : min (BitVec.ofNat 32 T.val).toInt.toNat (512 - 1) = T.val := by rw [int_word (by omega)]; omega
  have hE : min (BitVec.ofNat 32 e.val).toInt.toNat (16 - 1) = e.val := by rw [int_word (by omega)]; omega
  have both : ∀ a : Fin S512x16.rank, a ∈ gather_S512x16_S512x2_S512_n_01_n_n_01_1_11.startIndexMap := by decide
  unfold Host.gather
  congr 1
  funext a
  refine Fin.ext ?_
  change GatherDims.start _ (ix1 T) w a + GatherDims.batchCoord _ (ix1 T) a + GatherDims.offCoord _ (ix1 T) a = _
  rw [GatherDims.batchCoord_eq_zero _ _ _ List.not_mem_nil,
    GatherDims.offCoord_eq_zero _ _ _ (fun h => ((GatherDims.mem_sKept _ _).mp h).1 (both a))]
  unfold GatherDims.start
  rw [dif_pos (both a)]
  match a with
  | ⟨0, _⟩ => exact (congrArg (fun v : BitVec 32 => min v.toInt.toNat (512 - 1)) ((congrArg w (funext fun b => by match b with | ⟨0, _⟩ => rfl | ⟨1, _⟩ => rfl)).trans h0)).trans hT
  | ⟨1, _⟩ => exact (congrArg (fun v : BitVec 32 => min v.toInt.toNat (16 - 1)) ((congrArg w (funext fun b => by match b with | ⟨0, _⟩ => rfl | ⟨1, _⟩ => rfl)).trans h1)).trans hE

/-- A gather of whole matrices, one per token: the matrix the token's word names. -/
theorem matrices_at (W : FVec Ideal S16x256x512 .f32) (w : IVec S512x1 32) (T : Fin 512) (d : Fin 256) (f : Fin 512) (e : Fin 16)
    (he : w (ix2 T 0) = BitVec.ofNat 32 e.val) :
    Host.gather gather_S16x256x512_S512x1_S512x256x512_12_0_n_n_0_1_1256512 W w (ix3 T d f) = W (ix3 e d f) := by
  have hE : min (BitVec.ofNat 32 e.val).toInt.toNat (16 - 1) = e.val := by rw [int_word (by omega)]; omega
  unfold Host.gather
  congr 1
  funext a
  refine Fin.ext ?_
  change GatherDims.start _ (ix3 T d f) w a + GatherDims.batchCoord _ (ix3 T d f) a + GatherDims.offCoord _ (ix3 T d f) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.2 rfl))]
    have m0 : (⟨0, by decide⟩ : Fin S16x256x512.rank) ∈ gather_S16x256x512_S512x1_S512x256x512_12_0_n_n_0_1_1256512.startIndexMap :=
      List.mem_singleton.2 rfl
    unfold GatherDims.start
    rw [dif_pos m0]
    exact (congrArg (fun v : BitVec 32 => min v.toInt.toNat (16 - 1)) ((congrArg w (funext fun b => by match b with | ⟨0, _⟩ => rfl | ⟨1, _⟩ => rfl)).trans he)).trans hE
  | ⟨1, _⟩ => exact Nat.zero_add d.val
  | ⟨2, _⟩ => exact Nat.zero_add f.val

/-- Two columns of words side by side. -/
theorem sides_at (u v : IVec S512x1 32) (T : Fin 512) :
    concatenate S512x2 1 [⟨S512x1, u⟩, ⟨S512x1, v⟩] concatenates_S512x1_S512x1_S512x2_d1 (ix2 T 0) = u (ix2 T 0)
      ∧ concatenate S512x2 1 [⟨S512x1, u⟩, ⟨S512x1, v⟩] concatenates_S512x1_S512x1_S512x2_d1 (ix2 T 1) = v (ix2 T 0) := by
  constructor
  · refine concatenate_pair_apply_left (t := S512x2) 1 u v _ (ix2 T 0) rfl (ix2 T 0) fun b => ?_
    match b with
    | ⟨0, _⟩ => rfl
    | ⟨1, _⟩ => rfl
  · refine concatenate_pair_apply_right (t := S512x2) 1 u v _ (ix2 T 1) rfl rfl (ix2 T 0) (fun b hb => ?_) rfl
    match b with
    | ⟨0, _⟩ => rfl
    | ⟨1, _⟩ => exact absurd rfl hb

variable (X : FVec Ideal S512x256 .f32) (R : FVec Ideal S256x16 .f32) (I : IVec S512x2 32) (W : FVec Ideal S16x256x512 .f32)

/-- A token's softmax. -/
theorem softmax_at (T : Fin 512) (k : Fin 16) :
    val_main_v9 (F := Ideal) X R (ix2 T k) = prob (score (fun d => X (ix2 T d)) fun d e => R (ix2 d e)) k := by
  have hs : ∀ e, val_main_v0 (F := Ideal) X R (ix2 T e) = score (fun d => X (ix2 T d)) (fun d e => R (ix2 d e)) e := fun e => by
    rw [val_main_v0_apply, score]
    refine Finset.sum_congr rfl fun d _ => ?_
    congr 1
    · congr 1; funext a; match a with | ⟨0, _⟩ => rfl | ⟨1, _⟩ => rfl
    · congr 1; funext a; match a with | ⟨0, _⟩ => rfl | ⟨1, _⟩ => rfl
  have hb : val_main_v1 (F := Ideal) X R (ix1 T) = best (score (fun d => X (ix2 T d)) fun d e => R (ix2 d e)) := by
    refine (Host.reduce_eq_fold_single _ _ _ _ (by decide) _ _).trans ?_
    rw [val_main_cst_apply, Ideal.ofBits_def, ofBits_bot, best]
    refine Finset.fold_congr fun e _ => ?_
    rw [← hs e]
    show val_main_v0 (F := Ideal) X R _ = _
    congr 1
    funext a
    match a with
    | ⟨0, _⟩ => rfl
    | ⟨1, _⟩ => rfl
  have hp : ∀ e, val_main_v5 (F := Ideal) X R (ix2 T e) = Ideal.exp (score (fun d => X (ix2 T d)) (fun d e => R (ix2 d e)) e
      - best (score (fun d => X (ix2 T d)) fun d e => R (ix2 d e))) := fun e => by
    rw [val_main_v5_apply, val_main_v4_apply, val_main_v3_apply, val_main_v2_apply, hs,
      show idx_main_v2 (idx_main_v3 (ix2 T e)) = ix1 T from eq_ix1 _, hb]
    rfl
  have hq : val_main_v8 (F := Ideal) X R (ix2 T k) = ∑ e, Ideal.exp (score (fun d => X (ix2 T d)) (fun d e => R (ix2 d e)) e
      - best (score (fun d => X (ix2 T d)) fun d e => R (ix2 d e))) := by
    rw [val_main_v8_apply, val_main_v7_apply, val_main_v6_apply, val_main_cst_0_apply, Ideal.ofBits_def, Ideal.ofBits_zero_f32, zero_add]
    refine Finset.sum_congr rfl fun e _ => (congrArg _ ?_).trans (hp e)
    funext a
    match a with
    | ⟨0, _⟩ => rfl
    | ⟨1, _⟩ => rfl
  exact congrArg₂ Ideal.div (hp k) hq

variable {e o : Fin 16}

/-- The word of a token's first chosen expert. -/
theorem first_word {T : Fin 512} (he : I (ix2 T 0) = BitVec.ofNat 32 e.val) : val_main_v11 (F := Ideal) I (ix1 T) = BitVec.ofNat 32 e.val := by
  rw [val_main_v11_apply, val_main_v10_apply, ← he]
  congr 1
  funext a
  match a with
  | ⟨0, _⟩ => exact Fin.ext (Nat.div_one T.val)
  | ⟨1, _⟩ => rfl

/-- The word of a token's second chosen expert. -/
theorem second_word {T : Fin 512} (ho : I (ix2 T 1) = BitVec.ofNat 32 o.val) : val_main_v13 (F := Ideal) I (ix1 T) = BitVec.ofNat 32 o.val := by
  rw [val_main_v13_apply, val_main_v12_apply, ← ho]
  congr 1
  funext a
  match a with
  | ⟨0, _⟩ => exact Fin.ext (Nat.div_one T.val)
  | ⟨1, _⟩ => rfl

/-- The softmax at a token's first chosen expert. -/
theorem first_prob {T : Fin 512} (he : I (ix2 T 0) = BitVec.ofNat 32 e.val) :
    val_main_v28 (F := Ideal) X R I (ix1 T) = prob (score (fun d => X (ix2 T d)) fun d k => R (ix2 d k)) e := by
  refine (entries_at _ _ T e ((sides_at _ _ T).1.trans ?_) ((sides_at _ _ T).2.trans ?_)).trans (softmax_at X R T e)
  · rw [val_main_v25_apply, val_main_v19_apply, val_main_v16_apply, val_main_v15_apply, val_main_c_apply, val_main_v14_apply]
    exact unwrapped (n := T.val) (by omega) _
  · rw [val_main_v26_apply, show idx_main_v26 (ix2 T 0) = ix1 T from eq_ix1 _, val_main_v24_apply, val_main_v21_apply, val_main_v20_apply,
      val_main_c_2_apply, first_word I he]
    exact unwrapped (by omega) _

/-- The softmax at a token's second chosen expert. -/
theorem second_prob {T : Fin 512} (ho : I (ix2 T 1) = BitVec.ofNat 32 o.val) :
    val_main_v42 (F := Ideal) X R I (ix1 T) = prob (score (fun d => X (ix2 T d)) fun d k => R (ix2 d k)) o := by
  refine (entries_at _ _ T o ((sides_at _ _ T).1.trans ?_) ((sides_at _ _ T).2.trans ?_)).trans (softmax_at X R T o)
  · rw [val_main_v39_apply, val_main_v33_apply, val_main_v30_apply, val_main_v29_apply, val_main_c_4_apply, val_main_v14_apply]
    exact unwrapped (n := T.val) (by omega) _
  · rw [val_main_v40_apply, show idx_main_v40 (ix2 T 0) = ix1 T from eq_ix1 _, val_main_v38_apply, val_main_v35_apply, val_main_v34_apply,
      val_main_c_6_apply, second_word I ho]
    exact unwrapped (by omega) _

/-- A token's first chosen expert's output. -/
theorem first_expert {T : Fin 512} (f : Fin 512) (he : I (ix2 T 0) = BitVec.ofNat 32 e.val) :
    val_main_v51 (F := Ideal) X I W (ix2 T f) = expert (fun d => X (ix2 T d)) fun d => W (ix3 e d f) := by
  rw [val_main_v51_apply, expert]
  refine Finset.sum_congr rfl fun d _ => ?_
  rw [show lidx_main_v51 (ix2 T f) d = ix2 T d from eq_ix2 _, show ridx_main_v51 (ix2 T f) d = ix3 T d f from eq_ix3 _]
  refine congrArg (X (ix2 T d) * ·) (matrices_at W _ T d f e ?_)
  rw [val_main_v49_apply, show idx_main_v49 (ix2 T 0) = ix1 T from eq_ix1 _, val_main_v48_apply, val_main_v45_apply, val_main_v44_apply,
    val_main_c_8_apply, first_word I he]
  exact unwrapped (by omega) _

/-- A token's second chosen expert's output. -/
theorem second_expert {T : Fin 512} (f : Fin 512) (ho : I (ix2 T 1) = BitVec.ofNat 32 o.val) :
    val_main_v59 (F := Ideal) X I W (ix2 T f) = expert (fun d => X (ix2 T d)) fun d => W (ix3 o d f) := by
  rw [val_main_v59_apply, expert]
  refine Finset.sum_congr rfl fun d _ => ?_
  rw [show lidx_main_v59 (ix2 T f) d = ix2 T d from eq_ix2 _, show ridx_main_v59 (ix2 T f) d = ix3 T d f from eq_ix3 _]
  refine congrArg (X (ix2 T d) * ·) (matrices_at W _ T d f o ?_)
  rw [val_main_v57_apply, show idx_main_v57 (ix2 T 0) = ix1 T from eq_ix1 _, val_main_v56_apply, val_main_v53_apply, val_main_v52_apply,
    val_main_c_10_apply, second_word I ho]
  exact unwrapped (by omega) _

/-- The reference's result at a token and a feature: the mixture of the token's two chosen experts. -/
theorem result_at {T : Fin 512} (f : Fin 512) (he : I (ix2 T 0) = BitVec.ofNat 32 e.val) (ho : I (ix2 T 1) = BitVec.ofNat 32 o.val) :
    val_main_v68 (F := Ideal) X R I W (ix2 T f)
      = mixture (fun d => X (ix2 T d)) (fun d k => R (ix2 d k)) e o fun k d => W (ix3 k d f) := by
  rw [val_main_v68_apply, val_main_v63_apply, val_main_v67_apply, val_main_v62_apply, val_main_v61_apply, val_main_v60_apply,
    val_main_v66_apply, val_main_v65_apply, val_main_v64_apply,
    show idx_main_v61 (idx_main_v62 (ix2 T f)) = ix1 T from eq_ix1 _, show idx_main_v65 (idx_main_v66 (ix2 T f)) = ix1 T from eq_ix1 _,
    val_main_v43_apply, first_prob X R I he, second_prob X R I ho, first_expert X I W f he, second_expert X I W f ho]
  rfl

end Cert.Exchange.Whole
-- ==== Proof.Value.lean ====
/-
# The value

At exact arithmetic, from routes in range and finite tokens and router weights, the devices' results are the blocks of
the reference's.
-/
module

public import proofs.«01_k».proof.Proof.Frames
public import proofs.«01_k».proof.Proof.Output
public import proofs.«01_k».proof.Proof.Reference
public import Idealize.ShloMosaic.Lib.ReduceAll

@[expose] public section

noncomputable section

namespace Cert.Exchange

open Idealize.ShloMosaic
open Idealize.ShloMosaic.TcCoe
open Idealize.ShloMosaic.ValueIdx
open Idealize.SL.Sem

section Routed

open Cert.Pre_routed_KernelIdeal

/-- The pattern of the positive infinity. -/
theorem ofBits_top : Ideal.ofBits .f32 0x7F800000#32 = ⊤ := by simp [Ideal.ofBits, Ideal.ieee]

/-- A number whose magnitude compares below infinity is real. -/
theorem real_of_compare {a b : EReal} (hb : b = ⊤) (h : Ideal.cmp .olt (max a (-a)) b = 1#1) : IsReal a := by
  subst hb
  refine isReal_of_abs_lt ?_
  by_contra hn
  simp [Ideal.cmp, hn] at h

/-- A word from 0 to 15 is the word of an expert. -/
theorem word_of_range {w : BitVec 32} (h0 : IntOp.cmpi .sge w 0#32 = 1#1) (h1 : IntOp.cmpi .slt w 16#32 = 1#1) :
    ∃ e : Fin 16, w = BitVec.ofNat 32 e.val := by
  have g0 : (0 : ℤ) ≤ w.toInt := IntOp.cmpi_sge.1 h0
  have g1 : w.toInt < 16 := IntOp.cmpi_slt.1 h1
  have hn : w.toNat < 16 := by
    rw [BitVec.toInt_eq_toNat_cond] at g0 g1
    split at g0 <;> split at g1 <;> omega
  exact ⟨⟨w.toNat, hn⟩, by rw [BitVec.ofNat_toNat, BitVec.setWidth_eq]⟩

variable [Cert.Pre_routed_KernelIdeal.Facts]

/-- What the precondition says: every route names an expert, every token and router weight is real. -/
theorem routed_says {X : FVec Ideal S512x256 .f32} {R : FVec Ideal S256x16 .f32} {I : IVec S512x2 32} {W : FVec Ideal S4x256x512 .f32}
    (h : fn X R I W = fun _ => 1#1) :
    (∀ i, ∃ e : Fin 16, I i = BitVec.ofNat 32 e.val) ∧ (∀ i, IsReal (X i)) ∧ ∀ i, IsReal (R i) := by
  obtain ⟨h', hR⟩ := IntOp.andi_eq_one.1 (congrFun h ix0)
  obtain ⟨hI, hX⟩ := IntOp.andi_eq_one.1 h'
  haveI : Subsingleton S_.Idx := ⟨fun a b => funext fun k => k.elim0⟩
  refine ⟨fun i => ?_, fun i => ?_, fun i => ?_⟩
  · obtain ⟨h0, h1⟩ := IntOp.andi_eq_one.1 (Host.reduce_andi_all _ _ _ _ _ hI i)
    exact word_of_range h0 h1
  · exact real_of_compare ofBits_top (Host.reduce_andi_all _ _ _ _ _ hX i)
  · exact real_of_compare ofBits_top (Host.reduce_andi_all _ _ _ _ _ hR i)

end Routed

section Sum

/-- A device's own term and those of its three sources, in the order it adds them, are the terms of the four devices. -/
theorem sum_devices (c : Fin 4) (g : Fin 4 → EReal) : g c + g (src 0 c) + g (src 1 c) + g (src 2 c) = ∑ s, g s := by
  have hp : ∀ c : Fin 4, ({c, src 0 c, src 1 c, src 2 c} : Multiset (Fin 4)) = Finset.univ.val := by decide
  show _ = (Finset.univ.val.map g).sum
  rw [← hp c]
  simp [add_assoc]

/-- The experts of the four devices, device by device, are the sixteen experts. -/
theorem sum_experts (g : Fin 16 → EReal) : (∑ s : Fin 4, ∑ q : Fin 4, g (expertOf s q)) = ∑ k, g k := by
  rw [← Equiv.sum_comp (finProdFinEquiv (m := 4) (n := 4)) g, Fintype.sum_prod_type]
  refine Finset.sum_congr rfl fun s _ => Finset.sum_congr rfl fun q _ => congrArg g (Fin.ext ?_)
  show 4 * s.val + q.val = q.val + 4 * s.val
  omega

end Sum

section Kernel

open Cert.KernelIdeal Cert.KernelIdeal.Gen

variable (m : (ℓ : Loc nD τ sig) → Buf (Elt Ideal) ℓ)
  (X : FVec Ideal S512x256 .f32) (R : FVec Ideal S256x16 .f32) (I : IVec S512x2 32) (W : FVec Ideal ⟨3, ![16, 256, 512]⟩ .f32)

/-- The number device `c` stores at a token and a feature is the mixture of the token's two chosen experts. -/
theorem stored_at (hX : ∀ c : Dev nD, m ((c : Thread nD τ).loc main_arg0) = X) (hR : ∀ c : Dev nD, m ((c : Thread nD τ).loc main_arg1) = R)
    (hI : ∀ c : Dev nD, m ((c : Thread nD τ).loc main_arg2) = I)
    (hW : ∀ c : Dev nD, m ((c : Thread nD τ).loc main_arg3) = Layout.block ⟨3, ![4, 256, 512]⟩ ⟨3, ![16, 256, 512]⟩ 0 4 c W)
    (rX : ∀ i, IsReal (X i)) (rR : ∀ i, IsReal (R i)) (c : Dev nD) (t : Fin 128) (f : Fin 512) (e o : Fin 16)
    (he : I (ix2 (token c t) 0) = BitVec.ofNat 32 e.val) (ho : I (ix2 (token c t) 1) = BitVec.ofNat 32 o.val) :
    outAt m c (ix2 t f)
      = mixture (fun d => X (ix2 (token c t) d)) (fun d k => R (ix2 d k)) e o fun k d => W (ix3 k d f) := by
  have hs : ∀ k : Fin 3, snt m (src k c) k (ix3 0 t f)
      = lot X R (Layout.block ⟨3, ![4, 256, 512]⟩ ⟨3, ![16, 256, 512]⟩ 0 4 (src k c) W) (src k c) (token c t) f e o := fun k => by
    rw [snt, stX_eq, stR_eq, stI_eq, stW_eq, hX, hR, hI, hW]
    refine (sent_at X R I _ (src k c) k t f e o ?_ ?_).trans ?_ <;> rw [tgt_src]
    · exact he
    · exact ho
  have hk : keeps (stX m c) (stR m c) (stI m c) (stW m c) c (ix2 t f)
      = lot X R (Layout.block ⟨3, ![4, 256, 512]⟩ ⟨3, ![16, 256, 512]⟩ 0 4 c W) c (token c t) f e o := by
    rw [stX_eq, stR_eq, stI_eq, stW_eq, hX, hR, hI, hW]
    exact keeps_at X R I _ c t f e o he ho
  rw [outAt, total_at, hk, hs, hs, hs]
  refine (sum_devices c fun s => lot X R (Layout.block ⟨3, ![4, 256, 512]⟩ ⟨3, ![16, 256, 512]⟩ 0 4 s W) s (token c t) f e o).trans ?_
  rw [← sum_part (fun d => rX _) (fun d k => rR _), ← sum_experts]
  refine Finset.sum_congr rfl fun s _ => Finset.sum_congr rfl fun q _ => congrArg (part _ _) (funext fun d => congrArg W (funext fun a => Fin.ext ?_))
  match a with
  | ⟨0, _⟩ => show s.val * 4 + q.val = 4 * s.val + q.val; omega
  | ⟨1, _⟩ => rfl
  | ⟨2, _⟩ => rfl

end Kernel

/-- The value claim: from a routed memory the kernel's results are the blocks of the reference's. -/
theorem value : Cert.algebraic_KernelIdeal_ReferenceIdeal_pre_routed_KernelIdeal (hPre_routed_KernelIdeal := facts_routed) := by
  intro m g m' g' hpre hargs
  refine ⟨Cert.ReferenceIdeal.Value.res_main_v68 m' 0, ?_, (θ_run Cert.ReferenceIdeal.defs _ _).mono (fun _ h => h 0) (Cert.ReferenceIdeal.Value.run m' g')⟩
  refine (θ_run Cert.KernelIdeal.defs _ _).mono (fun r h c => ⟨?_, (h.1 c 0).trans (finalA_in m c 0 rfl), (h.1 c 1).trans (finalA_in m c 1 rfl),
    (h.1 c 2).trans (finalA_in m c 2 rfl), (h.1 c 3).trans (finalA_in m c 3 rfl)⟩) (run_main m g)
  refine ((h.1 c 4).trans (final_out m c)).trans (funext fun i => ?_)
  haveI := facts_routed
  obtain ⟨hI, rX, rR⟩ := routed_says (hpre c)
  rw [(hargs c).1] at rX
  rw [(hargs c).2.1] at rR
  rw [(hargs c).2.2.1] at hI
  obtain ⟨t, f, rfl⟩ : ∃ (t : Fin 128) (f : Fin 512), i = ix2 t f := ⟨i 0, i 1, eq_ix2 i⟩
  obtain ⟨e, he⟩ := hI (ix2 (token c t) 0)
  obtain ⟨o, ho⟩ := hI (ix2 (token c t) 1)
  refine (stored_at m _ _ _ _ (fun c => (hargs c).1) (fun c => (hargs c).2.1) (fun c => (hargs c).2.2.1) (fun c => (hargs c).2.2.2)
    rX rR c t f e o he ho).trans ?_
  rw [Layout.block_apply, Cert.ReferenceIdeal.Read.val_main_v68_eq]
  refine (Whole.result_at _ _ _ _ f he ho).symm.trans (congrArg _ (funext fun a => Fin.ext ?_))
  match a with
  | ⟨0, _⟩ => show 128 * c.val + t.val = c.val * 128 + t.val; omega
  | ⟨1, _⟩ => rfl

end Cert.Exchange

end
-- ==== Proof.lean ====
/-
# The certificate

The claims of the proof's modules collected: the frames from Proof/Frames.lean, the value claim from Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

open Idealize.ShloMosaic Idealize.SL.Sem

/-- Every claim stated of the program and its reference. -/
theorem claim : Cert.Claim :=
  ⟨Cert.Kernel.Gen.facts, Cert.KernelIdeal.Gen.facts, Cert.ReferenceIdeal.Gen.facts, Cert.Exchange.facts_routed,
    Cert.Exchange.facts_routed_whole, Cert.Exchange.frame_kernel, Cert.Exchange.frame_ideal,
    fun m g _ => Cert.Exchange.frame_ideal m g trivial, Cert.Exchange.frame_reference,
    fun m g _ => Cert.Exchange.frame_reference m g trivial, trivial, Cert.Exchange.value⟩

end Cert.Proof

end
